-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![16384, 256]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S3x2x256x512 : Shape := ⟨4, ![3, 2, 256, 512]⟩
abbrev S3x2x512x256 : Shape := ⟨4, ![3, 2, 512, 256]⟩
abbrev S3x2 : Shape := ⟨2, ![3, 2]⟩
abbrev S_ : Shape := ⟨0, ![]⟩
abbrev S1x1x256x512 : Shape := ⟨4, ![1, 1, 256, 512]⟩
abbrev S1x1x512x256 : Shape := ⟨4, ![1, 1, 512, 256]⟩
abbrev S1x1 : Shape := ⟨2, ![1, 1]⟩
abbrev S512x512 : Shape := ⟨2, ![512, 512]⟩

abbrev nBuf : Space → Nat
  | .hbm => 8
  | .vmem => 12
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S512x256, .f32⟩
  | .hbm, ⟨3, _⟩ => ⟨S256x512, .f32⟩
  | .hbm, ⟨4, _⟩ => ⟨S512x256, .f32⟩
  | .hbm, ⟨5, _⟩ => ⟨S256x512, .f32⟩
  | .hbm, ⟨6, _⟩ => ⟨S512x256, .f32⟩
  | .hbm, ⟨7, _⟩ => ⟨S512x256, .f32⟩
  | .local _ .vmem, ⟨0, _⟩ => ⟨S512x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S512x256, .f32⟩
  | .local _ .vmem, ⟨8, _⟩ => ⟨S3x2x256x512, .bf16⟩
  | .local _ .vmem, ⟨9, _⟩ => ⟨S3x2x512x256, .bf16⟩
  | .local _ .vmem, ⟨10, _⟩ => ⟨S3x2x256x512, .bf16⟩
  | .local _ .vmem, ⟨11, _⟩ => ⟨S3x2x512x256, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_6 : BitVec 32 := 1#32
  let v10 : BitVec 32 := Scalar.muli v6 c1_i32_6
  let v11 : BitVec 32 := Scalar.addi c0_i32_7 v10
  v11.toNat
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_37 : BitVec 32 := 1#32
  let v33 : BitVec 32 := Scalar.muli v6 c1_i32_37
  let v34 : BitVec 32 := Scalar.addi c0_i32_38 v33
  v34.toNat
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_51 : BitVec 32 := 1#32
  let v43 : BitVec 32 := Scalar.muli v6 c1_i32_51
  let v44 : BitVec 32 := Scalar.addi c0_i32_52 v43
  v44.toNat
def k0_dev5 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_65 : BitVec 32 := 1#32
  let v53 : BitVec 32 := Scalar.muli v4 c1_i32_65
  let v54 : BitVec 32 := Scalar.addi c0_i32_66 v53
  v54.toNat
def k0_dev6 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_79 : BitVec 32 := 1#32
  let v63 : BitVec 32 := Scalar.muli v4 c1_i32_79
  let v64 : BitVec 32 := Scalar.addi c0_i32_80 v63
  v64.toNat
def k0_dev7 (d0 : Dev nD) : Nat :=
  let c0_i32_205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_204 : BitVec 32 := 1#32
  let v138 : BitVec 32 := Scalar.muli v4 c1_i32_204
  let v139 : BitVec 32 := Scalar.addi c0_i32_205 v138
  v139.toNat
def k0_dev8 (d0 : Dev nD) : Nat :=
  let c0_i32_208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_207 : BitVec 32 := 1#32
  let v140 : BitVec 32 := Scalar.muli v6 c1_i32_207
  let v141 : BitVec 32 := Scalar.addi c0_i32_208 v140
  v141.toNat
@[reducible] def k0_t1_loop : Scf.Loop 32 :=
  let c0_i32_211 : BitVec 32 := 0#32
  let c7_i32 : BitVec 32 := 7#32
  let v142 : BitVec 32 := Scalar.addi c0_i32_211 c7_i32
  let c1_i32_212 : BitVec 32 := 1#32
  ⟨c0_i32_211, v142, c1_i32_212⟩
def k0_dev9 (d0 : Dev nD) : Nat :=
  let c0_i32_979 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_978 : BitVec 32 := 1#32
  let v639 : BitVec 32 := Scalar.muli v6 c1_i32_978
  let v640 : BitVec 32 := Scalar.addi c0_i32_979 v639
  v640.toNat
def k0_dev10 (d0 : Dev nD) : Nat :=
  let c0_i32_993 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_992 : BitVec 32 := 1#32
  let v649 : BitVec 32 := Scalar.muli v6 c1_i32_992
  let v650 : BitVec 32 := Scalar.addi c0_i32_993 v649
  v650.toNat
def k0_dev11 (d0 : Dev nD) : Nat :=
  let c0_i32_1007 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1006 : BitVec 32 := 1#32
  let v659 : BitVec 32 := Scalar.muli v4 c1_i32_1006
  let v660 : BitVec 32 := Scalar.addi c0_i32_1007 v659
  v660.toNat
def k0_dev12 (d0 : Dev nD) : Nat :=
  let c0_i32_1021 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1020 : BitVec 32 := 1#32
  let v669 : BitVec 32 := Scalar.muli v4 c1_i32_1020
  let v670 : BitVec 32 := Scalar.addi c0_i32_1021 v669
  v670.toNat
def k0_dev13 (d0 : Dev nD) : Nat :=
  let c0_i32_1158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1157 : BitVec 32 := 1#32
  let v755 : BitVec 32 := Scalar.muli v4 c1_i32_1157
  let v756 : BitVec 32 := Scalar.addi c0_i32_1158 v755
  v756.toNat
def k0_dev14 (d0 : Dev nD) : Nat :=
  let c0_i32_1161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1160 : BitVec 32 := 1#32
  let v757 : BitVec 32 := Scalar.muli v6 c1_i32_1160
  let v758 : BitVec 32 := Scalar.addi c0_i32_1161 v757
  v758.toNat
def k0_dev15 (d0 : Dev nD) : Nat :=
  let c0_i32_1173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1172 : BitVec 32 := 1#32
  let v759 : BitVec 32 := Scalar.muli v6 c1_i32_1172
  let v760 : BitVec 32 := Scalar.addi c0_i32_1173 v759
  v760.toNat
def k0_dev16 (d0 : Dev nD) : Nat :=
  let c0_i32_1187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1186 : BitVec 32 := 1#32
  let v769 : BitVec 32 := Scalar.muli v6 c1_i32_1186
  let v770 : BitVec 32 := Scalar.addi c0_i32_1187 v769
  v770.toNat
def k0_dev17 (d0 : Dev nD) : Nat :=
  let c0_i32_1201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1200 : BitVec 32 := 1#32
  let v779 : BitVec 32 := Scalar.muli v4 c1_i32_1200
  let v780 : BitVec 32 := Scalar.addi c0_i32_1201 v779
  v780.toNat
def k0_dev18 (d0 : Dev nD) : Nat :=
  let c0_i32_1215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1214 : BitVec 32 := 1#32
  let v789 : BitVec 32 := Scalar.muli v4 c1_i32_1214
  let v790 : BitVec 32 := Scalar.addi c0_i32_1215 v789
  v790.toNat
def k0_dev19 (d0 : Dev nD) : Nat :=
  let c0_i32_1352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1351 : BitVec 32 := 1#32
  let v875 : BitVec 32 := Scalar.muli v4 c1_i32_1351
  let v876 : BitVec 32 := Scalar.addi c0_i32_1352 v875
  v876.toNat
def k0_dev20 (d0 : Dev nD) : Nat :=
  let c0_i32_1355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1354 : BitVec 32 := 1#32
  let v877 : BitVec 32 := Scalar.muli v6 c1_i32_1354
  let v878 : BitVec 32 := Scalar.addi c0_i32_1355 v877
  v878.toNat
def k0_dev21 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_221 : BitVec 32 := 1#32
  let v144 : BitVec 32 := Scalar.muli v6 c1_i32_221
  let v145 : BitVec 32 := Scalar.addi c0_i32_222 v144
  v145.toNat
def k0_dev22 (d0 : Dev nD) : Nat :=
  let c0_i32_236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_235 : BitVec 32 := 1#32
  let v154 : BitVec 32 := Scalar.muli v6 c1_i32_235
  let v155 : BitVec 32 := Scalar.addi c0_i32_236 v154
  v155.toNat
def k0_dev23 (d0 : Dev nD) : Nat :=
  let c0_i32_356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_355 : BitVec 32 := 1#32
  let v241 : BitVec 32 := Scalar.muli v6 c1_i32_355
  let v242 : BitVec 32 := Scalar.addi c0_i32_356 v241
  v242.toNat
def k0_dev24 (d0 : Dev nD) : Nat :=
  let c0_i32_370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_369 : BitVec 32 := 1#32
  let v251 : BitVec 32 := Scalar.muli v6 c1_i32_369
  let v252 : BitVec 32 := Scalar.addi c0_i32_370 v251
  v252.toNat
def k0_dev25 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_383 : BitVec 32 := 1#32
  let v261 : BitVec 32 := Scalar.muli v4 c1_i32_383
  let v262 : BitVec 32 := Scalar.addi c0_i32_384 v261
  v262.toNat
def k0_dev26 (d0 : Dev nD) : Nat :=
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_397 : BitVec 32 := 1#32
  let v271 : BitVec 32 := Scalar.muli v4 c1_i32_397
  let v272 : BitVec 32 := Scalar.addi c0_i32_398 v271
  v272.toNat
def k0_dev27 (d0 : Dev nD) : Nat :=
  let c0_i32_524 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_523 : BitVec 32 := 1#32
  let v346 : BitVec 32 := Scalar.muli v4 c1_i32_523
  let v347 : BitVec 32 := Scalar.addi c0_i32_524 v346
  v347.toNat
def k0_dev28 (d0 : Dev nD) : Nat :=
  let c0_i32_527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_526 : BitVec 32 := 1#32
  let v348 : BitVec 32 := Scalar.muli v6 c1_i32_526
  let v349 : BitVec 32 := Scalar.addi c0_i32_527 v348
  v349.toNat
@[reducible] def k0_t2_loop : Scf.Loop 32 :=
  let c0_i32_530 : BitVec 32 := 0#32
  let c7_i32_531 : BitVec 32 := 7#32
  let v350 : BitVec 32 := Scalar.addi c0_i32_530 c7_i32_531
  let c1_i32_532 : BitVec 32 := 1#32
  ⟨c0_i32_530, v350, c1_i32_532⟩
def k0_dev29 (d0 : Dev nD) : Nat :=
  let c0_i32_979 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_978 : BitVec 32 := 1#32
  let v639 : BitVec 32 := Scalar.muli v6 c1_i32_978
  let v640 : BitVec 32 := Scalar.addi c0_i32_979 v639
  v640.toNat
def k0_dev30 (d0 : Dev nD) : Nat :=
  let c0_i32_993 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_992 : BitVec 32 := 1#32
  let v649 : BitVec 32 := Scalar.muli v6 c1_i32_992
  let v650 : BitVec 32 := Scalar.addi c0_i32_993 v649
  v650.toNat
def k0_dev31 (d0 : Dev nD) : Nat :=
  let c0_i32_1007 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1006 : BitVec 32 := 1#32
  let v659 : BitVec 32 := Scalar.muli v4 c1_i32_1006
  let v660 : BitVec 32 := Scalar.addi c0_i32_1007 v659
  v660.toNat
def k0_dev32 (d0 : Dev nD) : Nat :=
  let c0_i32_1021 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1020 : BitVec 32 := 1#32
  let v669 : BitVec 32 := Scalar.muli v4 c1_i32_1020
  let v670 : BitVec 32 := Scalar.addi c0_i32_1021 v669
  v670.toNat
def k0_dev33 (d0 : Dev nD) : Nat :=
  let c0_i32_1158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1157 : BitVec 32 := 1#32
  let v755 : BitVec 32 := Scalar.muli v4 c1_i32_1157
  let v756 : BitVec 32 := Scalar.addi c0_i32_1158 v755
  v756.toNat
def k0_dev34 (d0 : Dev nD) : Nat :=
  let c0_i32_1161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1160 : BitVec 32 := 1#32
  let v757 : BitVec 32 := Scalar.muli v6 c1_i32_1160
  let v758 : BitVec 32 := Scalar.addi c0_i32_1161 v757
  v758.toNat
def k0_dev35 (d0 : Dev nD) : Nat :=
  let c0_i32_1173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1172 : BitVec 32 := 1#32
  let v759 : BitVec 32 := Scalar.muli v6 c1_i32_1172
  let v760 : BitVec 32 := Scalar.addi c0_i32_1173 v759
  v760.toNat
def k0_dev36 (d0 : Dev nD) : Nat :=
  let c0_i32_1187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1186 : BitVec 32 := 1#32
  let v769 : BitVec 32 := Scalar.muli v6 c1_i32_1186
  let v770 : BitVec 32 := Scalar.addi c0_i32_1187 v769
  v770.toNat
def k0_dev37 (d0 : Dev nD) : Nat :=
  let c0_i32_1201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1200 : BitVec 32 := 1#32
  let v779 : BitVec 32 := Scalar.muli v4 c1_i32_1200
  let v780 : BitVec 32 := Scalar.addi c0_i32_1201 v779
  v780.toNat
def k0_dev38 (d0 : Dev nD) : Nat :=
  let c0_i32_1215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1214 : BitVec 32 := 1#32
  let v789 : BitVec 32 := Scalar.muli v4 c1_i32_1214
  let v790 : BitVec 32 := Scalar.addi c0_i32_1215 v789
  v790.toNat
def k0_dev39 (d0 : Dev nD) : Nat :=
  let c0_i32_1352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1351 : BitVec 32 := 1#32
  let v875 : BitVec 32 := Scalar.muli v4 c1_i32_1351
  let v876 : BitVec 32 := Scalar.addi c0_i32_1352 v875
  v876.toNat
def k0_dev40 (d0 : Dev nD) : Nat :=
  let c0_i32_1355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1354 : BitVec 32 := 1#32
  let v877 : BitVec 32 := Scalar.muli v6 c1_i32_1354
  let v878 : BitVec 32 := Scalar.addi c0_i32_1355 v877
  v878.toNat
def k0_dev41 (d0 : Dev nD) : Nat :=
  let c0_i32_542 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_541 : BitVec 32 := 1#32
  let v352 : BitVec 32 := Scalar.muli v6 c1_i32_541
  let v353 : BitVec 32 := Scalar.addi c0_i32_542 v352
  v353.toNat
def k0_dev42 (d0 : Dev nD) : Nat :=
  let c0_i32_556 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_555 : BitVec 32 := 1#32
  let v362 : BitVec 32 := Scalar.muli v6 c1_i32_555
  let v363 : BitVec 32 := Scalar.addi c0_i32_556 v362
  v363.toNat
def k0_dev43 (d0 : Dev nD) : Nat :=
  let c0_i32_676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_675 : BitVec 32 := 1#32
  let v449 : BitVec 32 := Scalar.muli v6 c1_i32_675
  let v450 : BitVec 32 := Scalar.addi c0_i32_676 v449
  v450.toNat
def k0_dev44 (d0 : Dev nD) : Nat :=
  let c0_i32_690 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_689 : BitVec 32 := 1#32
  let v459 : BitVec 32 := Scalar.muli v6 c1_i32_689
  let v460 : BitVec 32 := Scalar.addi c0_i32_690 v459
  v460.toNat
def k0_dev45 (d0 : Dev nD) : Nat :=
  let c0_i32_704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_703 : BitVec 32 := 1#32
  let v469 : BitVec 32 := Scalar.muli v4 c1_i32_703
  let v470 : BitVec 32 := Scalar.addi c0_i32_704 v469
  v470.toNat
def k0_dev46 (d0 : Dev nD) : Nat :=
  let c0_i32_718 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_717 : BitVec 32 := 1#32
  let v479 : BitVec 32 := Scalar.muli v4 c1_i32_717
  let v480 : BitVec 32 := Scalar.addi c0_i32_718 v479
  v480.toNat
def k0_dev47 (d0 : Dev nD) : Nat :=
  let c0_i32_844 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_843 : BitVec 32 := 1#32
  let v554 : BitVec 32 := Scalar.muli v4 c1_i32_843
  let v555 : BitVec 32 := Scalar.addi c0_i32_844 v554
  v555.toNat
def k0_dev48 (d0 : Dev nD) : Nat :=
  let c0_i32_847 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_846 : BitVec 32 := 1#32
  let v556 : BitVec 32 := Scalar.muli v6 c1_i32_846
  let v557 : BitVec 32 := Scalar.addi c0_i32_847 v556
  v557.toNat
@[reducible] def k0_t3_loop : Scf.Loop 32 :=
  let c0_i32_850 : BitVec 32 := 0#32
  let c7_i32_851 : BitVec 32 := 7#32
  let v558 : BitVec 32 := Scalar.addi c0_i32_850 c7_i32_851
  let c1_i32_852 : BitVec 32 := 1#32
  ⟨c0_i32_850, v558, c1_i32_852⟩
def k0_dev49 (d0 : Dev nD) : Nat :=
  let c0_i32_979 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_978 : BitVec 32 := 1#32
  let v639 : BitVec 32 := Scalar.muli v6 c1_i32_978
  let v640 : BitVec 32 := Scalar.addi c0_i32_979 v639
  v640.toNat
def k0_dev50 (d0 : Dev nD) : Nat :=
  let c0_i32_993 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_992 : BitVec 32 := 1#32
  let v649 : BitVec 32 := Scalar.muli v6 c1_i32_992
  let v650 : BitVec 32 := Scalar.addi c0_i32_993 v649
  v650.toNat
def k0_dev51 (d0 : Dev nD) : Nat :=
  let c0_i32_1007 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1006 : BitVec 32 := 1#32
  let v659 : BitVec 32 := Scalar.muli v4 c1_i32_1006
  let v660 : BitVec 32 := Scalar.addi c0_i32_1007 v659
  v660.toNat
def k0_dev52 (d0 : Dev nD) : Nat :=
  let c0_i32_1021 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1020 : BitVec 32 := 1#32
  let v669 : BitVec 32 := Scalar.muli v4 c1_i32_1020
  let v670 : BitVec 32 := Scalar.addi c0_i32_1021 v669
  v670.toNat
def k0_dev53 (d0 : Dev nD) : Nat :=
  let c0_i32_1158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1157 : BitVec 32 := 1#32
  let v755 : BitVec 32 := Scalar.muli v4 c1_i32_1157
  let v756 : BitVec 32 := Scalar.addi c0_i32_1158 v755
  v756.toNat
def k0_dev54 (d0 : Dev nD) : Nat :=
  let c0_i32_1161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1160 : BitVec 32 := 1#32
  let v757 : BitVec 32 := Scalar.muli v6 c1_i32_1160
  let v758 : BitVec 32 := Scalar.addi c0_i32_1161 v757
  v758.toNat
def k0_dev55 (d0 : Dev nD) : Nat :=
  let c0_i32_1173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1172 : BitVec 32 := 1#32
  let v759 : BitVec 32 := Scalar.muli v6 c1_i32_1172
  let v760 : BitVec 32 := Scalar.addi c0_i32_1173 v759
  v760.toNat
def k0_dev56 (d0 : Dev nD) : Nat :=
  let c0_i32_1187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1186 : BitVec 32 := 1#32
  let v769 : BitVec 32 := Scalar.muli v6 c1_i32_1186
  let v770 : BitVec 32 := Scalar.addi c0_i32_1187 v769
  v770.toNat
def k0_dev57 (d0 : Dev nD) : Nat :=
  let c0_i32_1201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1200 : BitVec 32 := 1#32
  let v779 : BitVec 32 := Scalar.muli v4 c1_i32_1200
  let v780 : BitVec 32 := Scalar.addi c0_i32_1201 v779
  v780.toNat
def k0_dev58 (d0 : Dev nD) : Nat :=
  let c0_i32_1215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1214 : BitVec 32 := 1#32
  let v789 : BitVec 32 := Scalar.muli v4 c1_i32_1214
  let v790 : BitVec 32 := Scalar.addi c0_i32_1215 v789
  v790.toNat
def k0_dev59 (d0 : Dev nD) : Nat :=
  let c0_i32_1352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1351 : BitVec 32 := 1#32
  let v875 : BitVec 32 := Scalar.muli v4 c1_i32_1351
  let v876 : BitVec 32 := Scalar.addi c0_i32_1352 v875
  v876.toNat
def k0_dev60 (d0 : Dev nD) : Nat :=
  let c0_i32_1355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1354 : BitVec 32 := 1#32
  let v877 : BitVec 32 := Scalar.muli v6 c1_i32_1354
  let v878 : BitVec 32 := Scalar.addi c0_i32_1355 v877
  v878.toNat
def k0_dev61 (d0 : Dev nD) : Nat :=
  let c0_i32_862 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_861 : BitVec 32 := 1#32
  let v560 : BitVec 32 := Scalar.muli v6 c1_i32_861
  let v561 : BitVec 32 := Scalar.addi c0_i32_862 v560
  v561.toNat
def k0_dev62 (d0 : Dev nD) : Nat :=
  let c0_i32_876 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_875 : BitVec 32 := 1#32
  let v570 : BitVec 32 := Scalar.muli v6 c1_i32_875
  let v571 : BitVec 32 := Scalar.addi c0_i32_876 v570
  v571.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S16384x256 : Shape := ⟨2, ![16384, 256]⟩
abbrev S256x16384 : Shape := ⟨2, ![256, 16384]⟩
abbrev S16384x16384 : Shape := ⟨2, ![16384, 16384]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x16384, .f32⟩
  | .hbm, ⟨2, _⟩ => ⟨S16384x256, .f32⟩
  | .hbm, ⟨3, _⟩ => ⟨S256x16384, .f32⟩
  | .hbm, ⟨4, _⟩ => ⟨S16384x256, .f32⟩
  | .hbm, ⟨5, _⟩ => ⟨S256x16384, .f32⟩
  | .hbm, ⟨6, _⟩ => ⟨S16384x256, .f32⟩
  | .hbm, ⟨7, _⟩ => ⟨S16384x16384, .f32⟩
  | .hbm, ⟨8, _⟩ => ⟨S_, .f32⟩
  | .hbm, ⟨9, _⟩ => ⟨S16384x16384, .f32⟩
  | .hbm, ⟨10, _⟩ => ⟨S16384x16384, .f32⟩
  | .hbm, ⟨11, _⟩ => ⟨S16384x256, .f32⟩
  | .hbm, ⟨12, _⟩ => ⟨S16384x16384, .f32⟩
  | .hbm, ⟨13, _⟩ => ⟨S_, .f32⟩
  | .hbm, ⟨14, _⟩ => ⟨S16384x16384, .f32⟩
  | .hbm, ⟨15, _⟩ => ⟨S16384x16384, .f32⟩
  | .hbm, ⟨16, _⟩ => ⟨S16384x256, .f32⟩
  | .hbm, ⟨17, _⟩ => ⟨S16384x16384, .f32⟩
  | .hbm, ⟨18, _⟩ => ⟨S_, .f32⟩
  | .hbm, ⟨19, _⟩ => ⟨S16384x16384, .f32⟩
  | .hbm, ⟨20, _⟩ => ⟨S16384x16384, .f32⟩
  | .hbm, ⟨21, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.KernelIdeal.Text.lean ====
/-
The kernel's body, read as a composition of a few fragments.

The printed body is three layers of one shape. A layer stages the device's own two weight blocks in slot 0 of four
buffers, then passes the blocks round the ring, sixteen hops in the forward direction and fifteen in the backward one,
multiplying by each block as it holds it. This module names the fragments (start a hop, wait for it, shake hands with the
two neighbours, add one block's contribution, stage the blocks) over a layer `l` and a slot `s`, and proves that the
printed body is their composition (`body_eq`).

A buffer is named by two Booleans: the direction `d` (`false` forward, `true` backward) and the weight `w` (`false` the
first weight, `true` the second).
-/
module

public import proofs.«01_k».proof.Proof.Gen.KernelIdeal
public import Idealize.ShloMosaic.Lib.Scf

@[expose] public section

noncomputable section

namespace Cert.Proof.KernelIdeal

open Cert.KernelIdeal Cert.KernelIdeal.Gen
open Idealize.ShloMosaic Idealize.ShloMosaic.TcCoe
open Idealize.SL.Sem

variable {F : FTy → Type} [FloatOps F]

/-! ## Slots and semaphores -/

/-- The shape of one weight block: the first weight's, the second's. -/
abbrev shp : Bool → Shape | false => S256x512 | true => S512x256
/-- The shape of a buffer of six slots. -/
abbrev big : Bool → Shape | false => S3x2x256x512 | true => S3x2x512x256
/-- The shape of one slot of it. -/
abbrev one : Bool → Shape | false => S1x1x256x512 | true => S1x1x512x256

/-- The four buffers. -/
def bufRef : (d w : Bool) → Ref sig .tc
  | false, false => cc0_scratch0 | false, true => cc0_scratch1 | true, false => cc0_scratch2 | true, true => cc0_scratch3
def buf : (d w : Bool) → Memref sig .tc .vmem (big w) .bf16
  | false, false => Memref.whole cc0_scratch0 | false, true => Memref.whole cc0_scratch1
  | true, false => Memref.whole cc0_scratch2 | true, true => Memref.whole cc0_scratch3
theorem buf_isWhole : (d w : Bool) → (buf d w).IsWhole
  | false, false => Memref.isWhole_whole _ | false, true => Memref.isWhole_whole _
  | true, false => Memref.isWhole_whole _ | true, true => Memref.isWhole_whole _

theorem inbI (l : Fin 3) (s : Fin 2) : ∀ a, (![l.val, s.val, 0, 0] : Fin 4 → Nat) a + S1x1x256x512.size a ≤ S3x2x256x512.size a := by
  revert l s; decide
theorem inbO (l : Fin 3) (s : Fin 2) : ∀ a, (![l.val, s.val, 0, 0] : Fin 4 → Nat) a + S1x1x512x256.size a ≤ S3x2x512x256.size a := by
  revert l s; decide
theorem inbS (l : Fin 3) (s : Fin 2) : ∀ a, (![l.val, s.val] : Fin 2 → Nat) a + S1x1.size a ≤ S3x2.size a := by
  revert l s; decide

/-- The rectangle of slot `(l, s)`. -/
abbrev rectI (l : Fin 3) (s : Fin 2) : Rect S3x2x256x512 := Rect.unit (s := S3x2x256x512) ![l.val, s.val, 0, 0] S1x1x256x512.size (inbI l s)
abbrev rectO (l : Fin 3) (s : Fin 2) : Rect S3x2x512x256 := Rect.unit (s := S3x2x512x256) ![l.val, s.val, 0, 0] S1x1x512x256.size (inbO l s)
def rect : (w : Bool) → (l : Fin 3) → (s : Fin 2) → Rect (big w)
  | false, l, s => rectI l s
  | true, l, s => rectO l s

theorem wordsI : ∀ (l : Fin 3) (s : Fin 2), (rectI l s).WholeWords (EltTy.packing .bf16)
  | 0, 0 => wordsbf16_S3x2x256x512_S1x1x256x512_0_0_0_0 | 0, 1 => wordsbf16_S3x2x256x512_S1x1x256x512_0_1_0_0
  | 1, 0 => wordsbf16_S3x2x256x512_S1x1x256x512_1_0_0_0 | 1, 1 => wordsbf16_S3x2x256x512_S1x1x256x512_1_1_0_0
  | 2, 0 => wordsbf16_S3x2x256x512_S1x1x256x512_2_0_0_0 | 2, 1 => wordsbf16_S3x2x256x512_S1x1x256x512_2_1_0_0
theorem wordsO : ∀ (l : Fin 3) (s : Fin 2), (rectO l s).WholeWords (EltTy.packing .bf16)
  | 0, 0 => wordsbf16_S3x2x512x256_S1x1x512x256_0_0_0_0 | 0, 1 => wordsbf16_S3x2x512x256_S1x1x512x256_0_1_0_0
  | 1, 0 => wordsbf16_S3x2x512x256_S1x1x512x256_1_0_0_0 | 1, 1 => wordsbf16_S3x2x512x256_S1x1x512x256_1_1_0_0
  | 2, 0 => wordsbf16_S3x2x512x256_S1x1x512x256_2_0_0_0 | 2, 1 => wordsbf16_S3x2x512x256_S1x1x512x256_2_1_0_0
theorem packedI : ∀ (l : Fin 3), (rectI l 0).PackedRows (EltTy.packing .bf16)
  | 0 => packedbf16_S3x2x256x512_S1x1x256x512_0_0_0_0 | 1 => packedbf16_S3x2x256x512_S1x1x256x512_1_0_0_0
  | 2 => packedbf16_S3x2x256x512_S1x1x256x512_2_0_0_0
theorem packedO : ∀ (l : Fin 3), (rectO l 0).PackedRows (EltTy.packing .bf16)
  | 0 => packedbf16_S3x2x512x256_S1x1x512x256_0_0_0_0 | 1 => packedbf16_S3x2x512x256_S1x1x512x256_1_0_0_0
  | 2 => packedbf16_S3x2x512x256_S1x1x512x256_2_0_0_0

/-- Slot `(l, s)` of a buffer, as a block. -/
def slot (d : Bool) : (w : Bool) → (l : Fin 3) → (s : Fin 2) → Memref sig .tc .vmem (shp w) .bf16
  | false, l, s => ((buf d false).slice (rectI l s) (fun _ => rfl)).squeeze S256x512 squeezes_S1x1x256x512_S256x512
  | true, l, s => ((buf d true).slice (rectO l s) (fun _ => rfl)).squeeze S512x256 squeezes_S1x1x512x256_S512x256

theorem slot_words (d : Bool) : ∀ (w : Bool) (l : Fin 3) (s : Fin 2), (slot d w l s).view.WordExact
  | false, l, s => ((buf_isWhole d false).wordExact_slice rfl _ (wordsI l s)).reshape _ _
  | true, l, s => ((buf_isWhole d true).wordExact_slice rfl _ (wordsO l s)).reshape _ _

theorem slot_notSc : ∀ (d w : Bool) (l : Fin 3) (s : Fin 2), (slot d w l s).view.ref.isScScratch = false
  | false, false, _, _ => rfl | false, true, _, _ => rfl | true, false, _, _ => rfl | true, true, _, _ => rfl

/-- The semaphore arrays: `x = false` the send side's, `x = true` the receive side's. -/
def semArr : (d w x : Bool) → DmaSems sig S3x2
  | false, false, false => cc0_scratch4 | false, false, true => cc0_scratch5
  | false, true, false => cc0_scratch6 | false, true, true => cc0_scratch7
  | true, false, false => cc0_scratch8 | true, false, true => cc0_scratch9
  | true, true, false => cc0_scratch10 | true, true, true => cc0_scratch11

/-- The semaphore of a slot: what a copy out of it completes on (`x = false`), what a copy into it completes on. -/
def sm (d w x : Bool) (l : Fin 3) (s : Fin 2) : DmaSem sig :=
  (((semArr d w x).slice (Rect.unit (s := S3x2) ![l.val, s.val] S1x1.size (inbS l s))).squeeze S_ squeezes_S1x1_S_).sem

/-- The barrier semaphore. -/
def bar : Sem sig := (SemArray.scalar (sig.barrier 0 rfl) : Sems sig S_).sem

/-- The left and the right neighbour as the text computes them. -/
def devL (c : Dev nD) : Dev nD := ⟨k0_dev1 c, k0_dev1_lt c⟩
def devR (c : Dev nD) : Dev nD := ⟨k0_dev2 c, k0_dev2_lt c⟩
/-- The device the copies of direction `d` go to. -/
def dev (d : Bool) (c : Dev nD) : Dev nD := if d then devL c else devR c

/-! ## The fragments -/

/-- Start the copy of slot `(l, s)` into the neighbour's slot `(l, r)`. -/
def send (d w : Bool) (l : Fin 3) (s r : Fin 2) (c : Dev nD) : Prog (TpuEff nD τ sig (Elt F) Λ₀ .tc) PUnit :=
  Prog.lift (.enqueueDma (slot d w l s) (.remote (Dev.tc (dev d c)) (slot d w l r) (.dma (sm d w false l s)) (slot_notSc d w l r)) (.dma (sm d w true l r))
    (slot_words d w l s) (slot_words d w l r) ⟨⟨rfl, Or.inl rfl⟩, trivial⟩)

/-- Wait until the copy out of slot `(l, s)` has been read out, then until the copy into slot `(l, r)` has landed. -/
def await (d w : Bool) (l : Fin 3) (s r : Fin 2) : Prog (TpuEff nD τ sig (Elt F) Λ₀ .tc) PUnit := do
  Prog.lift (.waitDma2 (sm d w false l s) (slot d w l r) (slot d w l s) (slot_words d w l r) (slot_words d w l s))
  Prog.lift (.waitDma2 (sm d w true l r) (slot d w l s) (slot d w l r) (slot_words d w l s) (slot_words d w l r))

/-- Start a hop in direction `d`: both blocks. -/
def hopStart (d : Bool) (l : Fin 3) (s r : Fin 2) (c : Dev nD) : Prog (TpuEff nD τ sig (Elt F) Λ₀ .tc) PUnit := do
  send d false l s r c
  send d true l s r c

/-- Wait for a hop in direction `d`. -/
def hopWait (d : Bool) (l : Fin 3) (s r : Fin 2) : Prog (TpuEff nD τ sig (Elt F) Λ₀ .tc) PUnit := do
  await d false l s r
  await d true l s r

/-- Signal both neighbours, wait for both. -/
def shake (c : Dev nD) : Prog (TpuEff nD τ sig (Elt F) Λ₀ .tc) PUnit := do
  semSignalWord (devL c) bar 1#32
  semSignalWord (devR c) bar 1#32
  semWaitWord bar 2#32

/-- Read a slot. -/
def readI (d : Bool) (l : Fin 3) (s : Fin 2) : Prog (TpuEff nD τ sig (Elt F) Λ₀ .tc) (FVec F S256x512 .bf16) := do
  let v : Vec F S1x1x256x512 .bf16 ← Prog.lift (.load (buf d false) (rectI l s).toLoadRect (View.loadsAt_vmem h_S1x1x256x512))
  pure (shapeCast S256x512 v shapeCasts_S1x1x256x512_S256x512)
def readO (d : Bool) (l : Fin 3) (s : Fin 2) : Prog (TpuEff nD τ sig (Elt F) Λ₀ .tc) (FVec F S512x256 .bf16) := do
  let v : Vec F S1x1x512x256 .bf16 ← Prog.lift (.load (buf d true) (rectO l s).toLoadRect (View.loadsAt_vmem h_S1x1x512x256))
  pure (shapeCast S512x256 v shapeCasts_S1x1x512x256_S512x256)

/-- What one pair of weight blocks adds to the layer's result. -/
def part (x : FVec F S512x256 .bf16) (wi : FVec F S256x512 .bf16) (wo : FVec F S512x256 .bf16) : FVec F S512x256 .f32 :=
  matmul dot_S512x512_S512x256_S512x256_1_0_0_1_n_n none
    (truncf .bf16 (maximumf (matmul dot_S512x256_S256x512_S512x512_1_0_0_1_n_n none x wi (constant S512x512 .f32 0x00000000#32))
      (broadcast S512x512 (Scalar.ofBits .f32 0x00000000#32))) bitsLt_bf16_f32)
    wo (constant S512x256 .f32 0x00000000#32)

/-- The contribution of the blocks in slots `(l, s)` of direction `d`. -/
def contrib (d : Bool) (l : Fin 3) (s : Fin 2) (x : FVec F S512x256 .bf16) : Prog (TpuEff nD τ sig (Elt F) Λ₀ .tc) (FVec F S512x256 .f32) := do
  let wi ← readI d l s
  let wo ← readO d l s
  pure (part x wi wo)

/-- Stage a block in slot `(l, 0)`: the text reads the slot before it writes it. -/
def stageI (d : Bool) (l : Fin 3) (v : FVec F S256x512 .bf16) : Prog (TpuEff nD τ sig (Elt F) Λ₀ .tc) PUnit := do
  let _ ← readI d l 0
  Prog.lift (.store (buf d false) (rectI l 0) (shapeCast S1x1x256x512 v shapeCasts_S256x512_S1x1x256x512) Finset.univ
    (View.stores_vmem h_S1x1x256x512 ((buf_isWhole d false).storeExact_slice rfl _ (packedI l)) (fun _ => rfl)) (.inl rfl))
def stageO (d : Bool) (l : Fin 3) (v : FVec F S512x256 .bf16) : Prog (TpuEff nD τ sig (Elt F) Λ₀ .tc) PUnit := do
  let _ ← readO d l 0
  Prog.lift (.store (buf d true) (rectO l 0) (shapeCast S1x1x512x256 v shapeCasts_S512x256_S1x1x512x256) Finset.univ
    (View.stores_vmem h_S1x1x512x256 ((buf_isWhole d true).storeExact_slice rfl _ (packedO l)) (fun _ => rfl)) (.inl rfl))

/-- Read an operand of the kernel (a whole staging buffer), at the narrow format. -/
def inI (a : Memref sig .tc .vmem S256x512 .f32) : Prog (TpuEff nD τ sig (Elt F) Λ₀ .tc) (FVec F S256x512 .bf16) := do
  let v : Vec F S256x512 .f32 ← Prog.lift (.load a (Rect.unit (s := S256x512) ![0, 0] S256x512.size inb_S256x512_S256x512_0_0).toLoadRect (View.loadsAt_vmem h_S256x512))
  pure (truncf .bf16 (shapeCast S256x512 v shapeCasts_S256x512_S256x512 : FVec F S256x512 .f32) bitsLt_bf16_f32)
def inO (a : Memref sig .tc .vmem S512x256 .f32) : Prog (TpuEff nD τ sig (Elt F) Λ₀ .tc) (FVec F S512x256 .bf16) := do
  let v : Vec F S512x256 .f32 ← Prog.lift (.load a (Rect.unit (s := S512x256) ![0, 0] S512x256.size inb_S512x256_S512x256_0_0).toLoadRect (View.loadsAt_vmem h_S512x256))
  pure (truncf .bf16 (shapeCast S512x256 v shapeCasts_S512x256_S512x256 : FVec F S512x256 .f32) bitsLt_bf16_f32)

/-- One hop both ways from slots `s` to slots `r`, while the blocks in slots `s` are multiplied in. -/
def hop (l : Fin 3) (s r : Fin 2) (c : Dev nD) (x : FVec F S512x256 .bf16) (acc : FVec F S512x256 .f32) : Prog (TpuEff nD τ sig (Elt F) Λ₀ .tc) (FVec F S512x256 .f32) := do
  hopStart false l s r c
  hopStart true l s r c
  let a ← contrib false l s x
  let b ← contrib true l s x
  hopWait false l s r
  hopWait true l s r
  shake c
  pure (addf (addf acc a) b)

/-- The first hop of a layer: both directions hold the device's own blocks, multiplied in once. -/
def hopFirst (l : Fin 3) (c : Dev nD) (x : FVec F S512x256 .bf16) : Prog (TpuEff nD τ sig (Elt F) Λ₀ .tc) (FVec F S512x256 .f32) := do
  hopStart false l 0 1 c
  hopStart true l 0 1 c
  let a ← contrib false l 0 x
  hopWait false l 0 1
  hopWait true l 0 1
  shake c
  pure a

/-- The last hop, forward only, and the last block. -/
def hopLast (l : Fin 3) (c : Dev nD) (x : FVec F S512x256 .bf16) (acc : FVec F S512x256 .f32) : Prog (TpuEff nD τ sig (Elt F) Λ₀ .tc) (FVec F S512x256 .f32) := do
  hopStart false l 1 0 c
  let a ← contrib false l 1 x
  let b ← contrib true l 1 x
  hopWait false l 1 0
  let e ← contrib false l 0 x
  pure (addf (addf (addf acc a) b) e)

/-- Stage the device's own blocks. -/
def stage (l : Fin 3) (ai : Memref sig .tc .vmem S256x512 .f32) (ao : Memref sig .tc .vmem S512x256 .f32) : Prog (TpuEff nD τ sig (Elt F) Λ₀ .tc) PUnit := do
  let wi ← inI ai
  let wo ← inO ao
  stageI false l wi
  stageO false l wo
  stageI true l wi
  stageO true l wo

/-- Two hops: what one trip of a layer's loop does. -/
def hopPair (l : Fin 3) (c : Dev nD) (x : FVec F S512x256 .bf16) (acc : FVec F S512x256 .f32) : Prog (TpuEff nD τ sig (Elt F) Λ₀ .tc) (FVec F S512x256 .f32) := do
  let acc ← hop l 1 0 c x acc
  hop l 0 1 c x acc

/-- The loop bounds of the three layers, one and the same. -/
abbrev lp : Scf.Loop 32 := k0_t1_loop

/-- A layer. -/
def layer (l : Fin 3) (ai : Memref sig .tc .vmem S256x512 .f32) (ao : Memref sig .tc .vmem S512x256 .f32) (c : Dev nD)
    (x : FVec F S512x256 .bf16) : Prog (TpuEff nD τ sig (Elt F) Λ₀ .tc) (FVec F S512x256 .f32) := do
  stage l ai ao
  let acc ← hopFirst l c x
  let acc ← Scf.Loop.for lp k0_t1_ok acc fun _ acc => hopPair l c x acc
  hopLast l c x acc

/-- The result is stored whole. -/
def putOut (a : Memref sig .tc .vmem S512x256 .f32) (ha : a.IsWhole) (v : FVec F S512x256 .f32) : Prog (TpuEff nD τ sig (Elt F) Λ₀ .tc) PUnit := do
  let _ : Vec F S512x256 .f32 ← Prog.lift (.load a (Rect.unit (s := S512x256) ![0, 0] S512x256.size inb_S512x256_S512x256_0_0).toLoadRect (View.loadsAt_vmem h_S512x256))
  Prog.lift (.store a (Rect.unit (s := S512x256) ![0, 0] S512x256.size inb_S512x256_S512x256_0_0) v Finset.univ (View.stores_vmem_bits_univ h_S512x256 rfl) (.inl rfl))

/-- The body. -/
def body (a0 : Memref sig .tc .vmem S512x256 .f32) (a1 : Memref sig .tc .vmem S256x512 .f32) (a2 : Memref sig .tc .vmem S512x256 .f32)
    (a3 : Memref sig .tc .vmem S256x512 .f32) (a4 : Memref sig .tc .vmem S512x256 .f32) (a5 : Memref sig .tc .vmem S256x512 .f32)
    (a6 a7 : Memref sig .tc .vmem S512x256 .f32) (h7 : a7.IsWhole) : Prog (TpuEff nD τ sig (Elt F) Λ₀ .tc) PUnit := do
  let c : Dev nD ← Prog.lift .deviceId
  shake c
  let x ← inO a0
  let x ← layer 0 a1 a2 c x
  let x ← layer 1 a3 a4 c (truncf .bf16 x bitsLt_bf16_f32)
  let x ← layer 2 a5 a6 c (truncf .bf16 x bitsLt_bf16_f32)
  putOut a7 h7 x

end Cert.Proof.KernelIdeal

end
-- ==== Proof.KernelIdeal.Base.lean ====
/-
What the proof's modules share: the algebra the assertions live in, the ring of devices, a slot's ownership, and the rules
for the fragments that touch one slot only (reading it, staging a block in it).
-/
module

public import proofs.«01_k».proof.Proof.KernelIdeal.Text
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Pipeline.TableIdle
public import Idealize.ShloMosaic.Lib.Tactic

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

abbrev 𝒱₀ : Variants := Variants.none

/-- The weakest precondition of a piece of the body on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The ring -/

set_option backward.proofsInPublic true in
def nxt (c : Dev nD) : Dev nD := ⟨(c.val + 1) % 32, Nat.mod_lt _ (by decide)⟩
set_option backward.proofsInPublic true in
def prv (c : Dev nD) : Dev nD := ⟨(c.val + 31) % 32, Nat.mod_lt _ (by decide)⟩
theorem prv_nxt (c : Dev nD) : prv (nxt c) = c := by revert c; decide
theorem nxt_prv (c : Dev nD) : nxt (prv c) = c := by revert c; decide
theorem devL_eq (c : Dev nD) : devL c = prv c := Fin.ext (k0_dev1_eq c)
theorem devR_eq (c : Dev nD) : devR c = nxt c := Fin.ext (k0_dev2_eq c)

def ring : Dev nD ≃ Dev nD := ⟨nxt, prv, prv_nxt, nxt_prv⟩

/-- Where direction `d`'s copies go, and where they come from. -/
def tgt (d : Bool) (c : Dev nD) : Dev nD := if d then prv c else nxt c
def src (d : Bool) (c : Dev nD) : Dev nD := if d then nxt c else prv c
theorem src_tgt (d : Bool) (c : Dev nD) : src d (tgt d c) = c := by cases d; exact prv_nxt c; exact nxt_prv c
theorem tgt_src (d : Bool) (c : Dev nD) : tgt d (src d c) = c := by cases d; exact nxt_prv c; exact prv_nxt c
theorem dev_eq (d : Bool) (c : Dev nD) : dev d c = tgt d c := by cases d; exact devR_eq c; exact devL_eq c
theorem src_inj (d : Bool) {c c' : Dev nD} (h : src d c = src d c') : c = c' := by rw [← tgt_src d c, h, tgt_src]
theorem tgt_inj (d : Bool) {c c' : Dev nD} (h : tgt d c = tgt d c') : c = c' := by rw [← src_tgt d c, h, src_tgt]
def ringD (d : Bool) : Dev nD ≃ Dev nD := ⟨tgt d, src d, src_tgt d, tgt_src d⟩

/-! ## A slot's ownership -/

/-- A block of one of the two weights, at the narrow format. -/
abbrev Blk (F : FTy → Type) (w : Bool) : Type := (shp w).Idx → Elt F .bf16

/-- Slot `(l, s)` of a buffer on device `c`, a share of it, at known contents; and whole, at any. -/
def slotAt (d w : Bool) (l : Fin 3) (s : Fin 2) (c : Dev nD) (q : PosShare TreeShare) (X : Blk F w) : sProp 𝕄 :=
  owns (c : Thread nD τ) (slot d w l s) q X
def slotAny (d w : Bool) (l : Fin 3) (s : Fin 2) (c : Dev nD) : sProp 𝕄 := iprop(∃ X : Blk F w, slotAt d w l s c fullShare X)

instance slotAt_storable (d w l s c q) (X : Blk F w) : BI.Storable (upEmb : UEmb _ 𝕄) (slotAt d w l s c q X) := by
  unfold slotAt owns; infer_instance
instance slotAny_storable (d w l s c) : BI.Storable (upEmb : UEmb _ 𝕄) (slotAny (F := F) d w l s c) := by
  unfold slotAny; infer_instance

theorem slotAt_eq (d w l s) (c : Dev nD) (q) (X : Blk F w) :
    (slotAt d w l s c q X : sProp 𝕄) = ((slot d w l s).view.loc (c : Thread nD τ) ↦[(slot d w l s).view.set]{q} (slot d w l s).view.rep X) :=
  owns_eq_rep _ _ _ _

/-- The whole share is its two halves. -/
theorem slotAt_halves (d w l s) (c : Dev nD) (X : Blk F w) :
    (slotAt d w l s c fullShare X : sProp 𝕄) ⊣⊢ iprop(slotAt d w l s c fullShare.left X ∗ slotAt d w l s c fullShare.right X) := by
  rw [slotAt_eq, slotAt_eq, slotAt_eq]; exact pointsTo_share (PosShare.mem_left_op_right fullShare)

theorem slotAt_any (d w l s) (c : Dev nD) (X : Blk F w) : (slotAt d w l s c fullShare X : sProp 𝕄) ⊢ slotAny d w l s c := by
  unfold slotAny; iintro H; iexists X; iexact H

/-! ## Reading and staging -/

theorem slot_ptsI (d : Bool) (l : Fin 3) (s : Fin 2) (c : Dev nD) (q : PosShare TreeShare)
    (f : Buf (Elt F) (((buf d false).access (rectI l s)).loc (c : Thread nD τ))) :
    ((slot d false l s).view.loc (c : Thread nD τ) ↦[(slot d false l s).view.set]{q} f : sProp 𝕄)
      = (((buf d false).access (rectI l s)).loc (c : Thread nD τ) ↦[((buf d false).access (rectI l s)).set]{q} f) :=
  congrArg (fun S => (((buf d false).access (rectI l s)).loc (c : Thread nD τ) ↦[S]{q} f : sProp 𝕄)) (View.set_reshape _ _)
theorem slot_ptsO (d : Bool) (l : Fin 3) (s : Fin 2) (c : Dev nD) (q : PosShare TreeShare)
    (f : Buf (Elt F) (((buf d true).access (rectO l s)).loc (c : Thread nD τ))) :
    ((slot d true l s).view.loc (c : Thread nD τ) ↦[(slot d true l s).view.set]{q} f : sProp 𝕄)
      = (((buf d true).access (rectO l s)).loc (c : Thread nD τ) ↦[((buf d true).access (rectO l s)).set]{q} f) :=
  congrArg (fun S => (((buf d true).access (rectO l s)).loc (c : Thread nD τ) ↦[S]{q} f : sProp 𝕄)) (View.set_reshape _ _)

/-- Reading a slot gives the block in it. -/
theorem wp_readI (c : Dev nD) (d : Bool) (l : Fin 3) (s : Fin 2) (q) (X : Blk F false) {α : Type} (k : FVec F S256x512 .bf16 → Prog _ α) (Q : α → sProp 𝕄) :
    slotAt d false l s c q X ⊢ iprop((slotAt d false l s c q X -∗ WP c (k X) Q) -∗ WP c (readI d l s >>= k) Q) := by
  unfold slotAt owns readI
  simp only [Prog.lift, Prog.bind_op, Prog.bind_ret, Prog.pure_eq_ret, Prog.bind_assoc]
  iintro ⟨%f, %hf, H⟩ Hk
  ihave H := (Entails.of_eq (slot_ptsI d l s c q f)) $$ H
  iapply (wp_load_rect 𝒱₀ (c : Thread nD τ) none Set.univ (m := buf d false) (r := rectI l s) (q := q) (f := f) subset_rfl) $$ H
  iintro H
  ihave H := (Entails.of_eq (slot_ptsI d l s c q f).symm) $$ H
  have hx : shapeCast S256x512 (((buf d false).access (rectI l s)).read (Elt F) f) shapeCasts_S1x1x256x512_S256x512 = X := by
    rw [← hf]; rfl
  rw [hx]
  iapply Hk
  iexists f
  isplitr; · ipureintro; exact hf
  iexact H
theorem wp_readO (c : Dev nD) (d : Bool) (l : Fin 3) (s : Fin 2) (q) (X : Blk F true) {α : Type} (k : FVec F S512x256 .bf16 → Prog _ α) (Q : α → sProp 𝕄) :
    slotAt d true l s c q X ⊢ iprop((slotAt d true l s c q X -∗ WP c (k X) Q) -∗ WP c (readO d l s >>= k) Q) := by
  unfold slotAt owns readO
  simp only [Prog.lift, Prog.bind_op, Prog.bind_ret, Prog.pure_eq_ret, Prog.bind_assoc]
  iintro ⟨%f, %hf, H⟩ Hk
  ihave H := (Entails.of_eq (slot_ptsO d l s c q f)) $$ H
  iapply (wp_load_rect 𝒱₀ (c : Thread nD τ) none Set.univ (m := buf d true) (r := rectO l s) (q := q) (f := f) subset_rfl) $$ H
  iintro H
  ihave H := (Entails.of_eq (slot_ptsO d l s c q f).symm) $$ H
  have hx : shapeCast S512x256 (((buf d true).access (rectO l s)).read (Elt F) f) shapeCasts_S1x1x512x256_S512x256 = X := by
    rw [← hf]; rfl
  rw [hx]
  iapply Hk
  iexists f
  isplitr; · ipureintro; exact hf
  iexact H

/-- What is written through a view at one shape and read back at the other. -/
theorem read_staged {sp : Space} {s t : Shape} {e : EltTy} (V : View sig .tc sp s e) (f : V.ty.Contents (Elt F)) (v : t.Idx → Elt F e)
    (h : t.ShapeCasts s) (h' : s.ShapeCasts t) :
    shapeCast t (V.read (Elt F) (V.write (Elt F) f (shapeCast s v h) Finset.univ)) h' = v := by
  rw [View.read_write_univ]; exact shapeCast_shapeCast _ _ _

/-- Staging a block: the slot holds it afterwards. -/
theorem wp_stageI (c : Dev nD) (d : Bool) (l : Fin 3) (v : FVec F S256x512 .bf16) {α : Type} (k : PUnit → Prog _ α) (Q : α → sProp 𝕄) :
    slotAny d false l 0 c ⊢ iprop((slotAt d false l 0 c fullShare v -∗ WP c (k ⟨⟩) Q) -∗ WP c (stageI d l v >>= k) Q) := by
  unfold slotAny stageI
  simp only [Prog.bind_assoc]
  iintro ⟨%X, H⟩ Hk
  iapply (wp_readI c d l 0 fullShare X) $$ H; iintro H
  unfold slotAt owns
  simp only [Prog.lift, Prog.bind_op, Prog.bind_ret, Prog.pure_eq_ret, Prog.bind_assoc]
  icases H with ⟨%f, %hf, H⟩
  ihave H := (Entails.of_eq (slot_ptsI d l 0 c fullShare f)) $$ H
  iapply (wp_store 𝒱₀ (c : Thread nD τ) none Set.univ (m := buf d false) (r := rectI l 0) (Mk := Finset.univ)
    (S := ((buf d false).access (rectI l 0)).set) (f := f) (View.setOn_univ _).le) $$ H
  iintro H
  ihave H := (Entails.of_eq (slot_ptsI d l 0 c fullShare _).symm) $$ H
  iapply Hk
  iexists (((buf d false).access (rectI l 0)).write (Elt F) f (shapeCast S1x1x256x512 v shapeCasts_S256x512_S1x1x256x512) Finset.univ)
  isplitr
  · ipureintro
    exact read_staged ((buf d false).access (rectI l 0)) f v _ _
  iexact H
theorem wp_stageO (c : Dev nD) (d : Bool) (l : Fin 3) (v : FVec F S512x256 .bf16) {α : Type} (k : PUnit → Prog _ α) (Q : α → sProp 𝕄) :
    slotAny d true l 0 c ⊢ iprop((slotAt d true l 0 c fullShare v -∗ WP c (k ⟨⟩) Q) -∗ WP c (stageO d l v >>= k) Q) := by
  unfold slotAny stageO
  simp only [Prog.bind_assoc]
  iintro ⟨%X, H⟩ Hk
  iapply (wp_readO c d l 0 fullShare X) $$ H; iintro H
  unfold slotAt owns
  simp only [Prog.lift, Prog.bind_op, Prog.bind_ret, Prog.pure_eq_ret, Prog.bind_assoc]
  icases H with ⟨%f, %hf, H⟩
  ihave H := (Entails.of_eq (slot_ptsO d l 0 c fullShare f)) $$ H
  iapply (wp_store 𝒱₀ (c : Thread nD τ) none Set.univ (m := buf d true) (r := rectO l 0) (Mk := Finset.univ)
    (S := ((buf d true).access (rectO l 0)).set) (f := f) (View.setOn_univ _).le) $$ H
  iintro H
  ihave H := (Entails.of_eq (slot_ptsO d l 0 c fullShare _).symm) $$ H
  iapply Hk
  iexists (((buf d true).access (rectO l 0)).write (Elt F) f (shapeCast S1x1x512x256 v shapeCasts_S512x256_S1x1x512x256) Finset.univ)
  isplitr
  · ipureintro
    exact read_staged ((buf d true).access (rectO l 0)) f v _ _
  iexact H

/-- The contribution of the two blocks in a pair of slots. -/
theorem wp_contrib (c : Dev nD) (d : Bool) (l : Fin 3) (s : Fin 2) (q) (X : Blk F false) (Y : Blk F true) (x : FVec F S512x256 .bf16)
    {α : Type} (k : FVec F S512x256 .f32 → Prog _ α) (Q : α → sProp 𝕄) :
    iprop(slotAt d false l s c q X ∗ slotAt d true l s c q Y)
      ⊢ iprop(((slotAt d false l s c q X ∗ slotAt d true l s c q Y) -∗ WP c (k (part x X Y)) Q) -∗ WP c (contrib d l s x >>= k) Q) := by
  unfold contrib
  simp only [Prog.bind_ret, Prog.pure_eq_ret, Prog.bind_assoc]
  iintro ⟨H, H'⟩ Hk
  iapply (wp_readI c d l s q X) $$ H; iintro H
  iapply (wp_readO c d l s q Y) $$ H'; iintro H'
  iapply Hk
  isplitl [H] <;> iassumption

end Cert.Proof.KernelIdeal

end
-- ==== Proof.KernelIdeal.Protocol.lean ====
/-
The protocol of the ring: which semaphore is raised in which round, by whom, and what the raise hands over.

A device has forty-eight transfer semaphores (direction, weight, side, layer, slot) and one ready semaphore. Hop `k` of layer
`l` copies the block in slot `k % 2` of a device into slot `(k + 1) % 2` of the next device of its direction.

* the send semaphore of slot `s`, round `R`, is raised by hop `2 R + s`, and gives back the half of the slot that was lent;
* the receive semaphore of slot `s`, round `R`, is raised by hop `2 R + 1 - s`, and hands over the slot with the block that
  arrived, together with the fact that the sender's ready semaphore has reached the round of the next handshake;
* the ready semaphore is raised in every round once by either neighbour. Round 0 is the handshake at the start: a neighbour
  lends its three slots 1. Round `1 + 15 l + k` is the handshake after hop `k` of layer `l`: a neighbour lends the slot it has
  just sent from, which the next hop overwrites.

The weights are any blocks `W`: `W w l c` is what device `c` stages for weight `w` of layer `l`.
-/
module

public import proofs.«01_k».proof.Proof.KernelIdeal.Base
public import Mathlib.Algebra.BigOperators.Intervals

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Cells -/

/-- The slot hop `k` reads from. -/
def par (k : ℕ) : Fin 2 := ⟨k % 2, Nat.mod_lt _ (by decide)⟩
theorem par_two (k : ℕ) : par (k + 2) = par k := Fin.ext (Nat.add_mod_right k 2)

/-- How many hops a direction makes. -/
def nh (d : Bool) : ℕ := if d then 15 else 16

/-- A transfer semaphore: direction, weight, side (`false` send, `true` receive), layer, slot. -/
abbrev Ch : Type := Bool × Bool × Bool × Fin 3 × Fin 2

instance : DecidableEq (Option Ch) := inferInstance
instance : DecidableEq (Dev nD × Option Ch) := inferInstance
instance : Fintype (Dev nD × Option Ch) := inferInstance

abbrev dcell (d w x : Bool) (l : Fin 3) (s : Fin 2) (c : Dev nD) : GSem nD τ sig := ((c : Thread nD τ), .dma (sm d w x l s))
abbrev rcell (c : Dev nD) : GSem nD τ sig := ((c : Thread nD τ), .reg bar)

/-- Which transfer semaphore a number is. -/
def dec (q : DmaSem sig) : Option Ch :=
  if q.val < 8 then none
  else some (decide ((q.val - 8) / 24 % 2 = 1), decide ((q.val - 8) / 12 % 2 = 1), decide ((q.val - 8) / 6 % 2 = 1),
    ⟨(q.val - 8) / 2 % 3, Nat.mod_lt _ (by decide)⟩, ⟨(q.val - 8) % 2, Nat.mod_lt _ (by decide)⟩)

theorem dec_sm : ∀ (d w x : Bool) (l : Fin 3) (s : Fin 2), dec (sm d w x l s) = some (d, w, x, l, s) := by decide +kernel

theorem sm_inj {d w x : Bool} {l : Fin 3} {s : Fin 2} {d' w' x' : Bool} {l' : Fin 3} {s' : Fin 2}
    (h : sm d w x l s = sm d' w' x' l' s') : (d, w, x, l, s) = (d', w', x', l', s') := by
  have := congrArg dec h; rw [dec_sm, dec_sm] at this; exact Option.some.inj this

/-- The cells of the protocol. -/
def kcell : Dev nD × Option Ch → GSem nD τ sig
  | (c, none) => rcell c
  | (c, some (d, w, x, l, s)) => dcell d w x l s c

theorem kcell_injective : Function.Injective kcell := by
  rintro ⟨c, k⟩ ⟨c', k'⟩ h
  rcases k with _ | ⟨d, w, x, l, s⟩ <;> rcases k' with _ | ⟨d', w', x', l', s'⟩
  · have h1 : c = c' := congrArg (fun g : GSem nD τ sig => g.1.1) h
    rw [h1]
  · exact absurd (congrArg Prod.snd h) (fun h => by cases h)
  · exact absurd (congrArg Prod.snd h) (fun h => by cases h)
  · have h1 : c = c' := congrArg (fun g : GSem nD τ sig => g.1.1) h
    have h2 : (SemLoc.dma (sm d w x l s) : SemLoc sig) = .dma (sm d' w' x' l' s') := congrArg Prod.snd h
    rw [h1, sm_inj (SemLoc.dma.inj h2)]

theorem rcell_inj {c c' : Dev nD} (h : rcell c = rcell c') : c = c' := congrArg (fun g : GSem nD τ sig => g.1.1) h

/-! ## The blocks on their way -/

/-- What one copy of a block credits. -/
def N (w : Bool) : ℕ := (slot false w 0 0).view.dmaCredit
theorem N_eq : ∀ (d w : Bool) (l : Fin 3) (s : Fin 2), (slot d w l s).view.dmaCredit = N w
  | false, false, _, _ => rfl | false, true, _, _ => rfl | true, false, _, _ => rfl | true, true, _, _ => rfl
theorem N_pos : ∀ w : Bool, 0 < N w
  | false => View.dmaCredit_pos _ (by decide) | true => View.dmaCredit_pos _ (by decide)

variable (W : (w : Bool) → Fin 3 → Dev nD → Blk F w)

/-- The block device `c` holds in direction `d` after `k` hops: its `k`-th neighbour's. -/
def held (d w : Bool) (l : Fin 3) (k : ℕ) (c : Dev nD) : Blk F w := W w l ((src d)^[k] c)
omit [FloatOps F] in
theorem held_tgt (d w : Bool) (l : Fin 3) (k : ℕ) (c : Dev nD) : held W d w l (k + 1) (tgt d c) = held W d w l k c := by
  unfold held; rw [Function.iterate_succ_apply, src_tgt]

/-! ## The schedule -/

/-- The hop that raises round `R` of a transfer semaphore. -/
def dmaHop (x : Bool) (s : Fin 2) (R : ℕ) : ℕ := if x then 2 * R + (1 - s.val) else 2 * R + s.val
theorem dmaHop_send (k : ℕ) : dmaHop false (par k) (k / 2) = k := by
  show 2 * (k / 2) + k % 2 = k; omega
theorem dmaHop_recv (k : ℕ) : dmaHop true (par (k + 1)) (k / 2) = k := by
  show 2 * (k / 2) + (1 - (k + 1) % 2) = k; omega

def dmaPay (d w x : Bool) (l : Fin 3) (s : Fin 2) (k : ℕ) (c : Dev nD) : sProp 𝕄 :=
  if x then iprop(slotAt d w l s c fullShare (held W d w l (k + 1) c) ∗ reached ER (rcell (src d c)) (1 + 15 * l.val + k))
  else slotAt d w l s c fullShare.right (held W d w l k c)

omit [FloatOps F] in
theorem dmaPay_send (d w : Bool) (l : Fin 3) (s : Fin 2) (k : ℕ) (c : Dev nD) :
    dmaPay W d w false l s k c = slotAt d w l s c fullShare.right (held W d w l k c) := rfl
omit [FloatOps F] in
theorem dmaPay_recv (d w : Bool) (l : Fin 3) (s : Fin 2) (k : ℕ) (c : Dev nD) :
    dmaPay W d w true l s k c = iprop(slotAt d w l s c fullShare (held W d w l (k + 1) c) ∗ reached ER (rcell (src d c)) (1 + 15 * l.val + k)) := rfl

/-- A slot of device `c` lent for hop `k` to come: its contents do not matter, and its receive semaphore is at the hop's round. -/
def lent (d w : Bool) (l : Fin 3) (k : ℕ) (c : Dev nD) : sProp 𝕄 :=
  iprop(slotAny d w l (par (k + 1)) c ∗ reached ER (dcell d w true l (par (k + 1)) c) (k / 2))

/-- What the neighbour `tgt d c` hands to `c` in round `j` of `c`'s ready semaphore. -/
def readyPay (d : Bool) (j : ℕ) (c : Dev nD) : sProp 𝕄 :=
  match j with
  | 0 => bigSep (Finset.univ : Finset (Fin 3)) fun l => iprop(lent d false l 0 (tgt d c) ∗ lent d true l 0 (tgt d c))
  | j + 1 =>
    if j % 15 + 1 < nh d then
      iprop(lent d false ⟨j / 15 % 3, Nat.mod_lt _ (by decide)⟩ (j % 15 + 1) (tgt d c) ∗ lent d true ⟨j / 15 % 3, Nat.mod_lt _ (by decide)⟩ (j % 15 + 1) (tgt d c))
    else iprop(emp)

def Rd : Schedule (GSem nD τ sig) Bool 𝕄 where
  duties g r := match g.2 with
    | .reg s => if s = bar ∧ r < 46 then Finset.univ else ∅
    | .dma q => match dec q with
      | none => ∅
      | some (d, _, x, _, s) => if dmaHop x s r < nh d then {false} else ∅
  unitless _ := False
  amount g _ _ := match g.2 with
    | .reg _ => 1
    | .dma q => match dec q with
      | none => 1
      | some (_, w, _, _, _) => N w
  payload g r b := match g.2 with
    | .reg _ => readyPay b r g.1.1
    | .dma q => match dec q with
      | none => iprop(emp)
      | some (d, w, x, l, s) => dmaPay W d w x l s (dmaHop x s r) g.1.1
  amount_pos g _ _ _ := by
    rcases g.2 with s | q
    · exact Nat.one_pos
    · show 0 < (match dec q with
        | none => 1
        | some (_, w, _, _, _) => N w)
      split
      · exact Nat.one_pos
      · exact N_pos _

omit [FloatOps F] in
instance lent_storable (d w l k c) : BI.Storable (upEmb : UEmb _ 𝕄) (lent (F := F) d w l k c) := by unfold lent; infer_instance
omit [FloatOps F] in
instance readyPay_storable (d j c) : BI.Storable (upEmb : UEmb _ 𝕄) (readyPay (F := F) d j c) := by
  unfold readyPay; split
  · infer_instance
  · split <;> infer_instance
omit [FloatOps F] in
instance dmaPay_storable (d w x l s k c) : BI.Storable (upEmb : UEmb _ 𝕄) (dmaPay W d w x l s k c) := by
  unfold dmaPay; split <;> infer_instance
omit [FloatOps F] in
instance Rd_payload_storable (g : GSem nD τ sig) (r : ℕ) (b : Bool) : BI.Storable (upEmb : UEmb _ 𝕄) ((Rd W).payload g r b) := by
  rcases g with ⟨t, s | q⟩
  · show BI.Storable upEmb (readyPay b r t.1); infer_instance
  · show BI.Storable upEmb (match dec q with
      | none => iprop(emp)
      | some (d, w, x, l, s) => dmaPay W d w x l s (dmaHop x s r) t.1)
    split <;> infer_instance

section Sched
variable (d w x : Bool) (l : Fin 3) (s : Fin 2) (c : Dev nD) (r : ℕ) (b : Bool)

omit [FloatOps F] in
theorem duties_dma : (Rd W).duties (dcell d w x l s c) r = if dmaHop x s r < nh d then {false} else ∅ := by
  show (match dec (sm d w x l s) with
      | none => ∅
      | some (d, _, x, _, s) => if dmaHop x s r < nh d then {false} else ∅) = _
  rw [dec_sm]
omit [FloatOps F] in
theorem amount_dma : (Rd W).amount (dcell d w x l s c) r b = N w := by
  show (match dec (sm d w x l s) with
      | none => 1
      | some (_, w, _, _, _) => N w) = _
  rw [dec_sm]
omit [FloatOps F] in
theorem payload_dma : (Rd W).payload (dcell d w x l s c) r b = dmaPay W d w x l s (dmaHop x s r) c := by
  show (match dec (sm d w x l s) with
      | none => iprop(emp)
      | some (d, w, x, l, s) => dmaPay W d w x l s (dmaHop x s r) c) = _
  rw [dec_sm]
omit [FloatOps F] in
theorem payload_ready : (Rd W).payload (rcell c) r b = readyPay b r c := rfl
omit [FloatOps F] in
theorem duties_ready (h : r < 46) : (Rd W).duties (rcell c) r = Finset.univ := if_pos ⟨rfl, h⟩
omit [FloatOps F] in
theorem duties_ready_later (h : 46 ≤ r) : (Rd W).duties (rcell c) r = ∅ := if_neg fun h' => by omega
omit [FloatOps F] in
theorem expect_dma (h : dmaHop x s r < nh d) : (Rd W).expect (dcell d w x l s c) r = N w := by
  unfold Schedule.expect Schedule.amountOf
  rw [duties_dma, if_pos h, Finset.sum_singleton, amount_dma]
omit [FloatOps F] in
theorem expect_ready (h : r < 46) : (Rd W).expect (rcell c) r = 2 := by
  unfold Schedule.expect Schedule.amountOf
  rw [duties_ready W c r h]; exact Finset.sum_const 1
omit [FloatOps F] in
theorem rest_dma (h : dmaHop x s r < nh d) :
    bigSep ((Rd W).duties (dcell d w x l s c) r \ ∅) (fun b => (Rd W).payload (dcell d w x l s c) r b) = dmaPay W d w x l s (dmaHop x s r) c := by
  rw [Finset.sdiff_empty, duties_dma, if_pos h, bigSep_singleton, payload_dma]
omit [FloatOps F] in
theorem rest_ready (h : r < 46) :
    bigSep ((Rd W).duties (rcell c) r \ ∅) (fun b => (Rd W).payload (rcell c) r b) = iprop(readyPay false r c ∗ readyPay true r c) := by
  rw [Finset.sdiff_empty, duties_ready W c r h, bigSep_univ_eq_bigSepL [false, true] (by decide) (by decide), bigSepL_cons_cons, bigSepL_singleton]
  rfl

end Sched

/-! ## Levels and what is owed

A wait is named by its level: `0` for the windows and the send side, `1` for the first handshake, `2 h + 2` for the arrival of
hop `h` (counted through the layers, sixteen hops each) and `2 h + 3` for the handshake after it. -/

def L (g : GSem nD τ sig) : Finset ℕ := if g.1.2 = .tc then Finset.range 200 else ∅
def lv (_ : GSem nD τ sig) (ι : ℕ) : ℕ := ι
theorem L_of_ne (g : GSem nD τ sig) (h : g.1.2 ≠ .tc) : L g = ∅ := if_neg h
theorem mem_L (c : Dev nD) (s : SemLoc sig) {ι : ℕ} (h : ι < 200) : ι ∈ L ((c : Thread nD τ), s) := by
  unfold L; rw [if_pos rfl]; exact Finset.mem_range.mpr h

/-- The layer and the hop within it of the `h`-th hop. -/
def lay (h : ℕ) : Fin 3 := ⟨h / 16 % 3, Nat.mod_lt _ (by decide)⟩
theorem lay_eq (l : Fin 3) {k : ℕ} (hk : k < 16) : lay (16 * l.val + k) = l :=
  Fin.ext (show (16 * l.val + k) / 16 % 3 = l.val by omega)

/-- What a device owes for hop `k` of layer `l` in one direction, and for a handshake. -/
def sendOwe (d : Bool) (c : Dev nD) (l : Fin 3) (k ι : ℕ) : CellTallies nD τ sig ℕ :=
  tallyAt (dcell d true true l (par (k + 1)) (tgt d c)) ι (N true) + tallyAt (dcell d false true l (par (k + 1)) (tgt d c)) ι (N false)
def shakeOwe (c : Dev nD) (ι : ℕ) : CellTallies nD τ sig ℕ :=
  tallyAt (rcell (nxt c)) ι 1 + tallyAt (rcell (prv c)) ι 1
/-- What it owes for the `h`-th hop and the handshake after it. -/
def hopOwe (c : Dev nD) (h : ℕ) : CellTallies nD τ sig ℕ :=
  if h % 16 = 15 then sendOwe false c (lay h) (h % 16) (2 * h + 2)
  else (shakeOwe c (2 * h + 3) + sendOwe true c (lay h) (h % 16) (2 * h + 2)) + sendOwe false c (lay h) (h % 16) (2 * h + 2)
/-- What is owed from the `h`-th hop on. -/
def owe (c : Dev nD) (h : ℕ) : CellTallies nD τ sig ℕ := ∑ i ∈ Finset.Ico h 48, hopOwe c i
def O₀ (c : Dev nD) : CellTallies nD τ sig ℕ := owe c 0 + shakeOwe c 1

theorem owe_succ (c : Dev nD) {h : ℕ} (hh : h < 48) : owe c h = owe c (h + 1) + hopOwe c h := by
  unfold owe; rw [Finset.sum_eq_sum_Ico_succ_bot hh, add_comm]
theorem owe_last (c : Dev nD) : owe c 48 = 0 := rfl

/-- Every index owed lies in `[lo, 200)` and belongs to a device's own thread. -/
def Above (lo : ℕ) (O : CellTallies nD τ sig ℕ) : Prop := ∀ g i, 0 < O g i → g.1.2 = .tc ∧ lo < i ∧ i < 200

theorem above_zero (lo : ℕ) : Above lo 0 := fun g i h => absurd h (lt_irrefl 0)
theorem above_tally {lo ι : ℕ} (c : Dev nD) (s : SemLoc sig) (k : ℕ) (h : lo < ι) (h' : ι < 200) : Above lo (tallyAt ((c : Thread nD τ), s) ι k) :=
  fun g i hp => by obtain ⟨rfl, rfl⟩ := Pipeline.tallyAt_pos hp; exact ⟨rfl, h, h'⟩
theorem above_add {lo : ℕ} {O O' : CellTallies nD τ sig ℕ} (h : Above lo O) (h' : Above lo O') : Above lo (O + O') := fun g i hp => by
  rw [Pi.add_apply, Finsupp.add_apply] at hp
  rcases Nat.eq_zero_or_pos (O g i) with h0 | h0
  · exact h' g i (by omega)
  · exact h g i h0
theorem above_mono {lo lo' : ℕ} {O : CellTallies nD τ sig ℕ} (h : Above lo O) (hl : lo' ≤ lo) : Above lo' O := fun g i hp =>
  ⟨(h g i hp).1, lt_of_le_of_lt hl (h g i hp).2.1, (h g i hp).2.2⟩
theorem above_sendOwe (d : Bool) (c : Dev nD) (l : Fin 3) (k : ℕ) {ι lo : ℕ} (hl : lo < ι) (hh : ι < 200) : Above lo (sendOwe d c l k ι) :=
  above_add (above_tally _ _ _ hl hh) (above_tally _ _ _ hl hh)
theorem above_shakeOwe (c : Dev nD) {ι lo : ℕ} (hl : lo < ι) (hh : ι < 200) : Above lo (shakeOwe c ι) :=
  above_add (above_tally _ _ _ hl hh) (above_tally _ _ _ hl hh)
theorem above_hopOwe (c : Dev nD) {h lo : ℕ} (hh : h < 48) (hl : lo < 2 * h + 2) : Above lo (hopOwe c h) := by
  unfold hopOwe; split
  · exact above_sendOwe _ _ _ _ hl (by omega)
  · exact above_add (above_add (above_shakeOwe c (by omega) (by omega)) (above_sendOwe _ _ _ _ hl (by omega))) (above_sendOwe _ _ _ _ hl (by omega))
theorem above_owe (c : Dev nD) (h : ℕ) {lo : ℕ} (hl : lo < 2 * h + 2) : Above lo (owe c h) := by
  unfold owe
  refine Finset.sum_induction _ (Above lo) (fun _ _ => above_add) (above_zero lo) fun i hi => ?_
  rw [Finset.mem_Ico] at hi
  exact above_hopOwe c hi.2 (by omega)
theorem above_O₀ (c : Dev nD) : Above 0 (O₀ c) := above_add (above_owe c 0 (by omega)) (above_shakeOwe c (by omega) (by omega))

omit [FloatOps F] in
/-- A device may wait at level `ι` while all it owes lies above. -/
theorem mayWait (c : Dev nD) (s : SemLoc sig) {ι : ℕ} (hι : ι < 200) {O : CellTallies nD τ sig ℕ} (h : Above ι O) :
    (levAts L lv : sProp 𝕄) ⊢ MayWait (c : Thread nD τ) s ι O :=
  Pipeline.mayWait_of_levAts (mem_L c s hι) fun g i hp => by
    obtain ⟨h1, h2, h3⟩ := h g i hp
    refine ⟨?_, h2⟩
    unfold L; rw [if_pos h1]; exact Finset.mem_range.mpr h3

/-! ## What every device knows -/

/-- The protocol's invariants, the first rounds, the levels. -/
def ctx : sProp 𝕄 :=
  iprop((bigSep Finset.univ fun p : Dev nD × Option Ch => iprop(∃ κ : ℕ, cellInv ER (Rd W) κ (kcell p)))
    ∗ (bigSep Finset.univ fun p : Dev nD × Option Ch => reached ER (kcell p) 0) ∗ levAts L lv)
omit [FloatOps F] in
instance ctx_persistent : BI.Persistent (ctx W) := by unfold ctx; infer_instance
omit [FloatOps F] in
theorem inv_at (p : Dev nD × Option Ch) :
    (bigSep Finset.univ fun p : Dev nD × Option Ch => iprop(∃ κ : ℕ, cellInv ER (Rd W) κ (kcell p)) : sProp 𝕄) ⊢ iprop(∃ κ : ℕ, cellInv ER (Rd W) κ (kcell p)) :=
  bigSep_elim (Finset.mem_univ p)
omit [FloatOps F] in
theorem reached_at (p : Dev nD × Option Ch) :
    (bigSep Finset.univ fun p : Dev nD × Option Ch => reached ER (kcell p) 0 : sProp 𝕄) ⊢ reached ER (kcell p) 0 :=
  bigSep_elim (Finset.mem_univ p)
omit [FloatOps F] in
theorem ctx_inv (p : Dev nD × Option Ch) : ctx W ⊢ iprop(∃ κ : ℕ, cellInv ER (Rd W) κ (kcell p)) := by
  unfold ctx
  iintro ⟨H, -, -⟩
  iapply (inv_at W p); iexact H
omit [FloatOps F] in
theorem ctx_reached (p : Dev nD × Option Ch) : ctx W ⊢ (reached ER (kcell p) 0 : sProp 𝕄) := by
  unfold ctx
  iintro ⟨-, H, -⟩
  iapply (reached_at p); iexact H
omit [FloatOps F] in
theorem ctx_mayWait (c : Dev nD) (s : SemLoc sig) {ι : ℕ} (hι : ι < 200) {O : CellTallies nD τ sig ℕ} (h : Above ι O) :
    ctx W ⊢ MayWait (c : Thread nD τ) s ι O := by
  unfold ctx
  iintro ⟨-, -, H⟩
  iapply (mayWait c s hι h); iexact H

end Cert.Proof.KernelIdeal

end
-- ==== Proof.KernelIdeal.Rules.lean ====
/-
The rules of the effects that talk to other devices: starting a copy, waiting for it, and one handshake.
-/
module

public import proofs.«01_k».proof.Proof.KernelIdeal.Protocol

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (W : (w : Bool) → Fin 3 → Dev nD → Blk F w)

/-- A device's debt, whatever it has waited for so far. -/
def ow (c : Dev nD) (O : CellTallies nD τ sig ℕ) : sProp 𝕄 := iprop(∃ T : Waits sig ℕ, owes (c : Thread nD τ) O T)

/-- A semaphore's owner is at the start of round `R`. -/
def posAt (g : GSem nD τ sig) (R : ℕ) : sProp 𝕄 := iprop(atPos ER g R ∅ 0 ∗ reached ER g R)

/-! ## Starting a copy -/

/-- The copy of one block on its way to device `n`, which is the next of the direction. -/
theorem wp_send_op (d w : Bool) (l : Fin 3) (k : ℕ) (hk : k < nh d) (c n : Dev nD) (hn : n = tgt d c)
    {hsc : (slot d w l (par (k + 1)) : Memref sig (Dev.tc n : Thread nD τ).2.kind .vmem (shp w) .bf16).view.ref.isScScratch = false}
    {hsrc : (slot d w l (par k)).view.WordExact} {hdst : (slot d w l (par (k + 1))).view.WordExact}
    {hsem : DmaTarget.Typed .vmem (.dma (sm d w true l (par (k + 1))))
      (.remote (Dev.tc n : Thread nD τ) (slot d w l (par (k + 1)) : Memref sig .tc .vmem (shp w) .bf16) (.dma (sm d w false l (par k))) hsc)}
    {O' : CellTallies nD τ sig ℕ} (O : CellTallies nD τ sig ℕ) (ι : ℕ)
    (hO : O' = O + tallyAt (dcell d w true l (par (k + 1)) (tgt d c)) ι (N w)) {α : Type} (kk : PUnit → Prog _ α) (Q : α → sProp 𝕄) :
    iprop(ctx W ∗ slotAt d w l (par k) c fullShare (held W d w l k c) ∗ lent d w l k (tgt d c) ∗ ow c O'
        ∗ dutyTok ER (dcell d w false l (par k) c) (k / 2) false ∗ reached ER (dcell d w false l (par k) c) (k / 2)
        ∗ dutyTok ER (dcell d w true l (par (k + 1)) (tgt d c)) (k / 2) false ∗ reached ER (rcell c) (1 + 15 * l.val + k))
      ⊢ iprop(((slotAt d w l (par k) c fullShare.left (held W d w l k c) ∗ cred (tallyAt (dcell d w false l (par k) c) 0 (N w)) ∗ ow c O)
            -∗ WP c (kk ⟨⟩) Q) -∗ WP c (.op (.enqueueDma (slot d w l (par k))
              (.remote (Dev.tc n : Thread nD τ) (slot d w l (par (k + 1))) (.dma (sm d w false l (par k))) hsc) (.dma (sm d w true l (par (k + 1)))) hsrc hdst hsem) kk) Q) := by
  subst hn
  unfold lent slotAny ow
  iintro ⟨#Hctx, Hs, ⟨⟨%Y, Hd⟩, #Hrr⟩, ⟨%T, HO⟩, Ht, #Hrs, Ht', #Hrd⟩ Hk
  ihave Hh := (slotAt_halves d w l (par k) c (held W d w l k c)).1 $$ Hs
  icases Hh with ⟨HL, HR⟩
  ihave Hi := (ctx_inv W (c, some (d, w, false, l, par k))) $$ Hctx
  icases Hi with ⟨%κ₁, #HI₁⟩
  ihave Hi := (ctx_inv W (tgt d c, some (d, w, true, l, par (k + 1)))) $$ Hctx
  icases Hi with ⟨%κ₂, #HI₂⟩
  unfold slotAt owns
  icases HR with ⟨%fs, %hfs, HR⟩
  icases Hd with ⟨%fd, %hfd, Hd⟩
  iapply (Rounds.wp_send_pointsTo_with 𝒱₀ ER (Rd W) (c : Thread nD τ) none (κ₁ := κ₁) (κ₂ := κ₂) (c' := (tgt d c : Thread nD τ))
      (src := slot d w l (par k)) (dst := slot d w l (par (k + 1))) (sS := .dma (sm d w false l (par k))) (sem := .dma (sm d w true l (par (k + 1))))
      (q := fullShare.right) (fs := fs) (r₁ := k / 2) (r₂ := k / 2) (d₁ := false) (d₂ := false) (fd := fd) (F := reached ER (rcell c) (1 + 15 * l.val + k))
      (by rw [duties_dma, dmaHop_send, if_pos hk]; exact Finset.mem_singleton_self _)
      (by rw [duties_dma, dmaHop_recv, if_pos hk]; exact Finset.mem_singleton_self _)
      ι 0 (N w) (N_eq d w l _) (amount_dma W ..) (amount_dma W ..) O hO (W := T)
      (by
        rw [payload_dma, dmaHop_send]
        show _ ⊢ owns (c : Thread nD τ) (slot d w l (par k)) fullShare.right (held W d w l k c)
        unfold owns
        iintro H
        iexists fs
        isplitr; · ipureintro; exact hfs
        iexact H)
      (by
        rw [payload_dma, dmaHop_recv]
        show _ ⊢ iprop(owns (tgt d c : Thread nD τ) (slot d w l (par (k + 1))) fullShare (held W d w l (k + 1) (tgt d c)) ∗ reached ER (rcell (src d (tgt d c))) (1 + 15 * l.val + k))
        unfold owns
        rw [src_tgt]
        iintro ⟨H, Hr⟩
        isplitl [H]
        · iexists _
          isplitr; · ipureintro; exact (View.read_write_univ fd _).trans (hfs.trans (held_tgt W d w l k c).symm)
          iexact H
        iexact Hr)) $$ [HR Hd HO Ht Ht']
  · isplitr; · iexact HI₁
    isplitr; · iexact HI₂
    isplitl [HR]; · iexact HR
    isplitl [Hd]
    · isplitl [Hd]; · iexact Hd
      iexact Hrd
    isplitl [HO]; · iexact HO
    isplitl [Ht]; · iexact Ht
    isplitr; · iexact Hrs
    isplitl [Ht']; · iexact Ht'
    iexact Hrr
  iintro ⟨Hc, HO⟩
  iapply Hk
  isplitl [HL]; · iexact HL
  isplitl [Hc]; · iexact Hc
  iexists T; iexact HO

/-- Hop `k` of direction `d` started for one block: half of the slot stays for reading. -/
theorem wp_send (d w : Bool) (l : Fin 3) (k : ℕ) (hk : k < nh d) (c : Dev nD) {O' : CellTallies nD τ sig ℕ} (O : CellTallies nD τ sig ℕ) (ι : ℕ)
    (hO : O' = O + tallyAt (dcell d w true l (par (k + 1)) (tgt d c)) ι (N w)) {α : Type} (kk : PUnit → Prog _ α) (Q : α → sProp 𝕄) :
    iprop(ctx W ∗ slotAt d w l (par k) c fullShare (held W d w l k c) ∗ lent d w l k (tgt d c) ∗ ow c O'
        ∗ dutyTok ER (dcell d w false l (par k) c) (k / 2) false ∗ reached ER (dcell d w false l (par k) c) (k / 2)
        ∗ dutyTok ER (dcell d w true l (par (k + 1)) (tgt d c)) (k / 2) false ∗ reached ER (rcell c) (1 + 15 * l.val + k))
      ⊢ iprop(((slotAt d w l (par k) c fullShare.left (held W d w l k c) ∗ cred (tallyAt (dcell d w false l (par k) c) 0 (N w)) ∗ ow c O)
            -∗ WP c (kk ⟨⟩) Q) -∗ WP c (send d w l (par k) (par (k + 1)) c >>= kk) Q) := by
  unfold send
  simp only [Prog.lift, Prog.bind_op, Prog.bind_ret]
  exact wp_send_op W d w l k hk c (dev d c) (dev_eq d c) O ι hO kk Q

/-! ## Waiting -/

/-- A wait on a transfer semaphore for one whole round of it. -/
theorem wp_wait (d w x : Bool) (l : Fin 3) (s : Fin 2) (R : ℕ) (hk : dmaHop x s R < nh d) (c : Dev nD) {O : CellTallies nD τ sig ℕ} (ι : ℕ)
    (hι : ι < 200) (hO : Above ι O) {a b : Memref sig .tc .vmem (shp w) .bf16} {ha : a.view.WordExact} {hb : b.view.WordExact} (hN : b.view.dmaCredit = N w)
    {α : Type} (kk : PUnit → Prog _ α) (Q : α → sProp 𝕄) :
    iprop(ctx W ∗ cred (tallyAt (dcell d w x l s c) ι (N w)) ∗ ow c O ∗ posAt (dcell d w x l s c) R)
      ⊢ iprop(((ow c O ∗ posAt (dcell d w x l s c) (R + 1) ∗ dmaPay W d w x l s (dmaHop x s R) c) -∗ WP c (kk ⟨⟩) Q)
          -∗ WP c (.op (.waitDma2 (sm d w x l s) a b ha hb) kk) Q) := by
  unfold ow posAt
  iintro ⟨#Hctx, Hc, ⟨%T, HO⟩, Hat, -⟩ Hk
  ihave Hi := (ctx_inv W (c, some (d, w, x, l, s))) $$ Hctx
  icases Hi with ⟨%κ, #HI⟩
  iapply (Rounds.wp_wait_rest_token 𝒱₀ ER (Rd W) (c : Thread nD τ) none (κ := κ) (sm := .dma (sm d w x l s)) (k' := N w)
      (fun K => (wpE_waitDma2_eq 𝒱₀ (c : Thread nD τ) none Set.univ K).trans (by rw [hN])) (Set.mem_univ _) ι (O := O) (W := T) (R := R) (m := 0) (T := ∅)
      (by rw [Nat.zero_add]; exact (expect_dma W d w x l s c R hk).symm)) $$ [Hc HO Hat]
  · isplitr; · iexact HI
    isplitl [Hc]; · iexact Hc
    isplitl [HO]; · iexact HO
    isplitr; · iapply (ctx_mayWait W c _ hι hO); iexact Hctx
    iexact Hat
  iintro ⟨HO, Hat, Hr, Hpay⟩
  iapply Hk
  isplitl [HO]; · iexists _; iexact HO
  isplitl [Hat Hr]; · isplitl [Hat] <;> iassumption
  iapply (Entails.of_eq (rest_dma W d w x l s c R hk)); iexact Hpay

/-- Waiting for one block of hop `k`. -/
theorem wp_await (d w : Bool) (l : Fin 3) (k : ℕ) (hk : k < nh d) (c : Dev nD) {O : CellTallies nD τ sig ℕ} (ι : ℕ)
    (hι : ι < 200) (hO : Above ι O) {α : Type} (kk : PUnit → Prog _ α) (Q : α → sProp 𝕄) :
    iprop(ctx W ∗ cred (tallyAt (dcell d w false l (par k) c) 0 (N w)) ∗ cred (tallyAt (dcell d w true l (par (k + 1)) c) ι (N w)) ∗ ow c O
        ∗ posAt (dcell d w false l (par k) c) (k / 2) ∗ posAt (dcell d w true l (par (k + 1)) c) (k / 2))
      ⊢ iprop(((ow c O ∗ posAt (dcell d w false l (par k) c) (k / 2 + 1) ∗ posAt (dcell d w true l (par (k + 1)) c) (k / 2 + 1)
            ∗ slotAt d w l (par k) c fullShare.right (held W d w l k c)
            ∗ slotAt d w l (par (k + 1)) c fullShare (held W d w l (k + 1) c) ∗ reached ER (rcell (src d c)) (1 + 15 * l.val + k)) -∗ WP c (kk ⟨⟩) Q)
          -∗ WP c (await d w l (par k) (par (k + 1)) >>= kk) Q) := by
  unfold await
  simp only [Prog.lift, Prog.bind_op, Prog.bind_ret, Prog.pure_eq_ret, Prog.bind_assoc]
  iintro ⟨#Hctx, Hc, Hc', HO, Hp, Hp'⟩ Hk
  iapply (wp_wait W d w false l (par k) (k / 2) (by rw [dmaHop_send]; exact hk) c 0 (by omega) (above_mono hO (Nat.zero_le _)) (N_eq d w l _)) $$ [Hc HO Hp]
  · isplitr; · iexact Hctx
    isplitl [Hc]; · iexact Hc
    isplitl [HO] <;> iassumption
  rw [dmaHop_send, dmaPay_send]
  iintro ⟨HO, Hp, Hs⟩
  iapply (wp_wait W d w true l (par (k + 1)) (k / 2) (by rw [dmaHop_recv]; exact hk) c ι hι hO (N_eq d w l _)) $$ [Hc' HO Hp']
  · isplitr; · iexact Hctx
    isplitl [Hc']; · iexact Hc'
    isplitl [HO] <;> iassumption
  rw [dmaHop_recv, dmaPay_recv]
  iintro ⟨HO, Hp', Hs'⟩
  iapply Hk
  isplitl [HO]; · iexact HO
  isplitl [Hp]; · iexact Hp
  isplitl [Hp']; · iexact Hp'
  isplitl [Hs]; · iexact Hs
  iexact Hs'

/-! ## The handshake -/

/-- One handshake, in round `j` of the ready semaphores. -/
theorem wp_shake (c : Dev nD) (j : ℕ) (hj : j < 46) {O' : CellTallies nD τ sig ℕ} (O : CellTallies nD τ sig ℕ) (ι : ℕ) (hι : ι < 200)
    (hO : O' = O + shakeOwe c ι) (hab : Above ι O) {α : Type} (kk : PUnit → Prog _ α) (Q : α → sProp 𝕄) :
    iprop(ctx W ∗ ow c O' ∗ dutyTok ER (rcell (prv c)) j false ∗ reached ER (rcell (prv c)) j ∗ readyPay false j (prv c)
        ∗ dutyTok ER (rcell (nxt c)) j true ∗ reached ER (rcell (nxt c)) j ∗ readyPay true j (nxt c)
        ∗ cred (tallyAt (rcell c) ι 2) ∗ posAt (rcell c) j)
      ⊢ iprop(((ow c O ∗ posAt (rcell c) (j + 1) ∗ readyPay false j c ∗ readyPay true j c) -∗ WP c (kk ⟨⟩) Q) -∗ WP c (shake c >>= kk) Q) := by
  unfold shake
  simp only [semSignalWord, semWaitWord, Prog.lift, Prog.bind_op, Prog.bind_ret, Prog.pure_eq_ret, Prog.bind_assoc, devL_eq, devR_eq]
  unfold ow posAt
  iintro ⟨#Hctx, ⟨%T, HO⟩, Ht, #Hr, Hp, Ht', #Hr', Hp', Hc, Hat, -⟩ Hk
  ihave Hi := (ctx_inv W (prv c, none)) $$ Hctx
  icases Hi with ⟨%κ₁, #HI₁⟩
  ihave Hi := (ctx_inv W (nxt c, none)) $$ Hctx
  icases Hi with ⟨%κ₂, #HI₂⟩
  ihave Hi := (ctx_inv W (c, none)) $$ Hctx
  icases Hi with ⟨%κ, #HI⟩
  iapply (Rounds.wp_signal 𝒱₀ ER (Rd W) (c : Thread nD τ) none (dst := (prv c : Thread nD τ)) (κ := κ₁)
      (d := false) (r := j) (by rw [duties_ready W (prv c) j hj]; exact Finset.mem_univ _) rfl ι (O + tallyAt (rcell (nxt c)) ι 1)
      (hO.trans (add_assoc _ _ _).symm)) $$ [HO Ht Hp]
  · isplitr; · iexact HI₁
    isplitl [HO]; · iexact HO
    isplitl [Ht]; · iexact Ht
    isplitl [Hp]; · rw [payload_ready]; iexact Hp
    iexact Hr
  iintro HO
  iapply (Rounds.wp_signal 𝒱₀ ER (Rd W) (c : Thread nD τ) none (dst := (nxt c : Thread nD τ)) (κ := κ₂)
      (d := true) (r := j) (by rw [duties_ready W (nxt c) j hj]; exact Finset.mem_univ _) rfl ι O rfl) $$ [HO Ht' Hp']
  · isplitr; · iexact HI₂
    isplitl [HO]; · iexact HO
    isplitl [Ht']; · iexact Ht'
    isplitl [Hp']; · rw [payload_ready]; iexact Hp'
    iexact Hr'
  iintro HO
  iapply (Rounds.wp_wait_rest_token 𝒱₀ ER (Rd W) (c : Thread nD τ) none (κ := κ)
      (wpE_semWait_eq 𝒱₀ (c : Thread nD τ) none Set.univ) (Set.mem_univ _) ι (O := O) (W := T) (R := j) (m := 0) (T := ∅)
      (by rw [Nat.zero_add]; exact (expect_ready W c j hj).symm)) $$ [Hc HO Hat]
  · isplitr; · iexact HI
    isplitl [Hc]; · iexact Hc
    isplitl [HO]; · iexact HO
    isplitr; · iapply (ctx_mayWait W c _ hι hab); iexact Hctx
    iexact Hat
  iintro ⟨HO, Hat, Hr, Hpay⟩
  ihave Hpay := (Entails.of_eq (rest_ready W c j hj)) $$ Hpay
  icases Hpay with ⟨H1, H2⟩
  iapply Hk
  isplitl [HO]; · iexists _; iexact HO
  isplitl [Hat Hr]; · isplitl [Hat] <;> iassumption
  isplitl [H1] <;> iassumption

end Cert.Proof.KernelIdeal

end
-- ==== Proof.KernelIdeal.Hops.lean ====
/-
Hops: what a device holds between two hops, and one hop from start to finish.
-/
module

public import proofs.«01_k».proof.Proof.KernelIdeal.Rules

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (W : (w : Bool) → Fin 3 → Dev nD → Blk F w)

/-! ## What a device holds between hops -/

/-- The owner's positions of one slot pair's semaphores before hop `k`. -/
def posn (d w : Bool) (l : Fin 3) (k : ℕ) (c : Dev nD) : sProp 𝕄 :=
  iprop(posAt (dcell d w false l (par k) c) (k / 2) ∗ posAt (dcell d w false l (par (k + 1)) c) ((k + 1) / 2)
    ∗ posAt (dcell d w true l (par (k + 1)) c) (k / 2) ∗ posAt (dcell d w true l (par k) c) ((k + 1) / 2))

/-- The other slot: the neighbour's, lent for hop `k`, while there is such a hop; the device's own afterwards. -/
def other (d w : Bool) (l : Fin 3) (k : ℕ) (c : Dev nD) : sProp 𝕄 :=
  if k < nh d then lent d w l k (tgt d c) else slotAny d w l (par (k + 1)) c

/-- One block before hop `k` of direction `d`. -/
def chSt (d w : Bool) (l : Fin 3) (k : ℕ) (c : Dev nD) : sProp 𝕄 :=
  iprop(slotAt d w l (par k) c fullShare (held W d w l k c) ∗ posn d w l k c ∗ other d w l k c)
/-- While hop `k` is under way: half of the slot, and the rights to the two waits. -/
def chMid (d w : Bool) (l : Fin 3) (k : ℕ) (c : Dev nD) : sProp 𝕄 :=
  iprop(slotAt d w l (par k) c fullShare.left (held W d w l k c) ∗ posn d w l k c
    ∗ cred (tallyAt (dcell d w false l (par k) c) 0 (N w)) ∗ cred (tallyAt (dcell d w true l (par (k + 1)) c) (2 * (16 * l.val + k) + 2) (N w)))
/-- After hop `k`, before the handshake. -/
def chRet (d w : Bool) (l : Fin 3) (k : ℕ) (c : Dev nD) : sProp 𝕄 :=
  iprop(slotAt d w l (par (k + 1)) c fullShare (held W d w l (k + 1) c) ∗ posn d w l (k + 1) c ∗ slotAny d w l (par (k + 1 + 1)) c
    ∗ reached ER (rcell (src d c)) (1 + 15 * l.val + k))

/-- Both blocks. -/
def dirSt (d : Bool) (l : Fin 3) (k : ℕ) (c : Dev nD) : sProp 𝕄 := iprop(chSt W d false l k c ∗ chSt W d true l k c)
def dirMid (d : Bool) (l : Fin 3) (k : ℕ) (c : Dev nD) : sProp 𝕄 := iprop(chMid W d false l k c ∗ chMid W d true l k c)
def dirRet (d : Bool) (l : Fin 3) (k : ℕ) (c : Dev nD) : sProp 𝕄 := iprop(chRet W d false l k c ∗ chRet W d true l k c)

/-- The rights to hop `k`: to raise the two semaphores, to wait for the arrival. -/
def chTok (d w : Bool) (l : Fin 3) (k : ℕ) (c : Dev nD) : sProp 𝕄 :=
  iprop(dutyTok ER (dcell d w false l (par k) c) (k / 2) false ∗ dutyTok ER (dcell d w true l (par (k + 1)) (tgt d c)) (k / 2) false
    ∗ cred (tallyAt (dcell d w true l (par (k + 1)) c) (2 * (16 * l.val + k) + 2) (N w)))
def dirTok (d : Bool) (l : Fin 3) (k : ℕ) (c : Dev nD) : sProp 𝕄 := iprop(chTok d false l k c ∗ chTok d true l k c)
/-- The rights to a handshake in round `j`. -/
def shTok (j ι : ℕ) (c : Dev nD) : sProp 𝕄 :=
  iprop(dutyTok ER (rcell (prv c)) j false ∗ dutyTok ER (rcell (nxt c)) j true ∗ cred (tallyAt (rcell c) ι 2))
def hopTok' (l : Fin 3) (k : ℕ) (c : Dev nD) : sProp 𝕄 :=
  if k = 15 then dirTok false l k c
  else iprop(dirTok false l k c ∗ dirTok true l k c ∗ shTok (1 + 15 * l.val + k) (2 * (16 * l.val + k) + 3) c)
def hopTok (c : Dev nD) (h : ℕ) : sProp 𝕄 := hopTok' (lay h) (h % 16) c
/-- The rights to all hops from the `h`-th on. -/
def toks (c : Dev nD) (h : ℕ) : sProp 𝕄 := bigSep (Finset.Ico h 48) (hopTok c)

omit [FloatOps F] in
theorem toks_succ (c : Dev nD) {h : ℕ} (hh : h < 48) : (toks c h : sProp 𝕄) = iprop(hopTok c h ∗ toks c (h + 1)) := by
  unfold toks
  have h1 : (Finset.Ico h 48).erase h = Finset.Ico (h + 1) 48 := by
    ext i; simp only [Finset.mem_erase, Finset.mem_Ico]; omega
  rw [bigSep_erase (Finset.mem_Ico.mpr ⟨le_refl h, hh⟩), h1]; rfl

omit [FloatOps F] in
theorem hopTok_eq (c : Dev nD) (l : Fin 3) {k : ℕ} (hk : k < 16) : (hopTok c (16 * l.val + k) : sProp 𝕄) = hopTok' l k c := by
  unfold hopTok; rw [lay_eq l hk, show (16 * l.val + k) % 16 = k by omega]

theorem hopOwe_lt (c : Dev nD) (l : Fin 3) {k : ℕ} (hk : k < 15) :
    hopOwe c (16 * l.val + k) = (shakeOwe c (2 * (16 * l.val + k) + 3) + sendOwe true c l k (2 * (16 * l.val + k) + 2)) + sendOwe false c l k (2 * (16 * l.val + k) + 2) := by
  unfold hopOwe; rw [lay_eq l (by omega), show (16 * l.val + k) % 16 = k by omega, if_neg (by omega)]
theorem hopOwe_last (c : Dev nD) (l : Fin 3) :
    hopOwe c (16 * l.val + 15) = sendOwe false c l 15 (2 * (16 * l.val + 15) + 2) := by
  unfold hopOwe; rw [lay_eq l (by omega), show (16 * l.val + 15) % 16 = 15 by omega, if_pos rfl]

/-! ## One direction of a hop -/

theorem wp_chStart (d w : Bool) (l : Fin 3) (k : ℕ) (hk : k < nh d) (c : Dev nD) {O' : CellTallies nD τ sig ℕ} (O : CellTallies nD τ sig ℕ)
    (hO : O' = O + tallyAt (dcell d w true l (par (k + 1)) (tgt d c)) (2 * (16 * l.val + k) + 2) (N w)) {α : Type} (kk : PUnit → Prog _ α) (Q : α → sProp 𝕄) :
    iprop(ctx W ∗ chSt W d w l k c ∗ chTok d w l k c ∗ reached ER (rcell c) (1 + 15 * l.val + k) ∗ ow c O')
      ⊢ iprop(((chMid W d w l k c ∗ ow c O) -∗ WP c (kk ⟨⟩) Q) -∗ WP c (send d w l (par k) (par (k + 1)) c >>= kk) Q) := by
  unfold chSt chTok chMid other posn
  rw [if_pos hk]
  iintro ⟨#Hctx, ⟨Hs, ⟨Hp1, Hp2, Hp3, Hp4⟩, Hl⟩, ⟨Ht, Ht', Hc⟩, #Hr, HO⟩ Hk
  unfold posAt
  icases Hp1 with ⟨Hp1, #Hr1⟩
  iapply (wp_send W d w l k hk c O _ hO) $$ [Hs Hl HO Ht Ht']
  · isplitr; · iexact Hctx
    isplitl [Hs]; · iexact Hs
    isplitl [Hl]; · iexact Hl
    isplitl [HO]; · iexact HO
    isplitl [Ht]; · iexact Ht
    isplitr; · iexact Hr1
    isplitl [Ht']; · iexact Ht'
    iexact Hr
  iintro ⟨Hs, Hcs, HO⟩
  iapply Hk
  isplitr [HO]
  · isplitl [Hs]; · iexact Hs
    isplitl [Hp1 Hp2 Hp3 Hp4]
    · isplitl [Hp1]
      · isplitl [Hp1]; · iexact Hp1
        iexact Hr1
      isplitl [Hp2]; · iexact Hp2
      isplitl [Hp3]; · iexact Hp3
      iexact Hp4
    isplitl [Hcs]; · iexact Hcs
    iexact Hc
  iexact HO

theorem wp_chWait (d w : Bool) (l : Fin 3) (k : ℕ) (hk : k < nh d) (c : Dev nD) {O : CellTallies nD τ sig ℕ}
    (hO : Above (2 * (16 * l.val + k) + 2) O) {α : Type} (kk : PUnit → Prog _ α) (Q : α → sProp 𝕄) :
    iprop(ctx W ∗ chMid W d w l k c ∗ ow c O)
      ⊢ iprop(((chRet W d w l k c ∗ ow c O) -∗ WP c (kk ⟨⟩) Q) -∗ WP c (await d w l (par k) (par (k + 1)) >>= kk) Q) := by
  unfold chMid chRet posn
  have hk16 : k < 16 := by revert hk; unfold nh; split <;> omega
  have e1 : (k + 1 + 1) / 2 = k / 2 + 1 := by omega
  iintro ⟨#Hctx, ⟨Hs, ⟨Hp1, Hp2, Hp3, Hp4⟩, Hcs, Hc⟩, HO⟩ Hk
  iapply (wp_await W d w l k hk c (2 * (16 * l.val + k) + 2) (by omega) hO) $$ [Hcs Hc HO Hp1 Hp3]
  · isplitr; · iexact Hctx
    isplitl [Hcs]; · iexact Hcs
    isplitl [Hc]; · iexact Hc
    isplitl [HO]; · iexact HO
    isplitl [Hp1] <;> iassumption
  rw [e1, par_two k]
  iintro ⟨HO, Hp1, Hp3, HsR, Hs', Hr⟩
  ihave Hs := (slotAt_halves d w l (par k) c (held W d w l k c)).2 $$ [Hs HsR]
  · isplitl [Hs] <;> iassumption
  iapply Hk
  isplitr [HO]
  · isplitl [Hs']; · iexact Hs'
    isplitl [Hp1 Hp2 Hp3 Hp4]
    · isplitl [Hp2]; · iexact Hp2
      isplitl [Hp1]; · iexact Hp1
      isplitl [Hp4]; · iexact Hp4
      iexact Hp3
    isplitl [Hs]; · iapply (slotAt_any d w l (par k) c _); iexact Hs
    iexact Hr
  iexact HO

theorem wp_hopStart (d : Bool) (l : Fin 3) (k : ℕ) (hk : k < nh d) (c : Dev nD) {O' : CellTallies nD τ sig ℕ} (O : CellTallies nD τ sig ℕ)
    (hO : O' = O + sendOwe d c l k (2 * (16 * l.val + k) + 2)) {α : Type} (kk : PUnit → Prog _ α) (Q : α → sProp 𝕄) :
    iprop(ctx W ∗ dirSt W d l k c ∗ dirTok d l k c ∗ reached ER (rcell c) (1 + 15 * l.val + k) ∗ ow c O')
      ⊢ iprop(((dirMid W d l k c ∗ ow c O) -∗ WP c (kk ⟨⟩) Q) -∗ WP c (hopStart d l (par k) (par (k + 1)) c >>= kk) Q) := by
  unfold hopStart dirSt dirTok dirMid
  simp only [Prog.bind_assoc]
  iintro ⟨#Hctx, ⟨Hi, Ho⟩, ⟨Ti, To⟩, #Hr, HO⟩ Hk
  iapply (wp_chStart W d false l k hk c _ (hO.trans (add_assoc _ _ _).symm)) $$ [Hi Ti HO]
  · isplitr; · iexact Hctx
    isplitl [Hi]; · iexact Hi
    isplitl [Ti]; · iexact Ti
    isplitr; · iexact Hr
    iexact HO
  iintro ⟨Hi, HO⟩
  iapply (wp_chStart W d true l k hk c O rfl) $$ [Ho To HO]
  · isplitr; · iexact Hctx
    isplitl [Ho]; · iexact Ho
    isplitl [To]; · iexact To
    isplitr; · iexact Hr
    iexact HO
  iintro ⟨Ho, HO⟩
  iapply Hk
  isplitr [HO]
  · isplitl [Hi] <;> iassumption
  iexact HO

theorem wp_hopWait (d : Bool) (l : Fin 3) (k : ℕ) (hk : k < nh d) (c : Dev nD) {O : CellTallies nD τ sig ℕ}
    (hO : Above (2 * (16 * l.val + k) + 2) O) {α : Type} (kk : PUnit → Prog _ α) (Q : α → sProp 𝕄) :
    iprop(ctx W ∗ dirMid W d l k c ∗ ow c O)
      ⊢ iprop(((dirRet W d l k c ∗ ow c O) -∗ WP c (kk ⟨⟩) Q) -∗ WP c (hopWait d l (par k) (par (k + 1)) >>= kk) Q) := by
  unfold hopWait dirMid dirRet
  simp only [Prog.bind_assoc]
  iintro ⟨#Hctx, ⟨Hi, Ho⟩, HO⟩ Hk
  iapply (wp_chWait W d false l k hk c hO) $$ [Hi HO]
  · isplitr; · iexact Hctx
    isplitl [Hi] <;> iassumption
  iintro ⟨Hi, HO⟩
  iapply (wp_chWait W d true l k hk c hO) $$ [Ho HO]
  · isplitr; · iexact Hctx
    isplitl [Ho] <;> iassumption
  iintro ⟨Ho, HO⟩
  iapply Hk
  isplitr [HO]
  · isplitl [Hi] <;> iassumption
  iexact HO

/-! ## Contributions -/

/-- What the blocks held before hop `k` add. -/
def C (d : Bool) (l : Fin 3) (x : FVec F S512x256 .bf16) (k : ℕ) (c : Dev nD) : FVec F S512x256 .f32 :=
  part x (held W d false l k c) (held W d true l k c)

theorem wp_contribMid (d : Bool) (l : Fin 3) (k : ℕ) (c : Dev nD) (x : FVec F S512x256 .bf16) {α : Type} (kk : FVec F S512x256 .f32 → Prog _ α) (Q : α → sProp 𝕄) :
    dirMid W d l k c ⊢ iprop((dirMid W d l k c -∗ WP c (kk (C W d l x k c)) Q) -∗ WP c (contrib d l (par k) x >>= kk) Q) := by
  unfold dirMid chMid
  iintro ⟨⟨Hi, Ri⟩, Ho, Ro⟩ Hk
  iapply (wp_contrib c d l (par k) fullShare.left (held W d false l k c) (held W d true l k c) x) $$ [Hi Ho]
  · isplitl [Hi] <;> iassumption
  iintro ⟨Hi, Ho⟩
  iapply Hk
  isplitl [Hi Ri]
  · isplitl [Hi] <;> iassumption
  isplitl [Ho] <;> iassumption

theorem wp_contribSt (d : Bool) (l : Fin 3) (k : ℕ) (c : Dev nD) (x : FVec F S512x256 .bf16) {α : Type} (kk : FVec F S512x256 .f32 → Prog _ α) (Q : α → sProp 𝕄) :
    dirSt W d l k c ⊢ iprop((dirSt W d l k c -∗ WP c (kk (C W d l x k c)) Q) -∗ WP c (contrib d l (par k) x >>= kk) Q) := by
  unfold dirSt chSt
  iintro ⟨⟨Hi, Ri⟩, Ho, Ro⟩ Hk
  iapply (wp_contrib c d l (par k) fullShare (held W d false l k c) (held W d true l k c) x) $$ [Hi Ho]
  · isplitl [Hi] <;> iassumption
  iintro ⟨Hi, Ho⟩
  iapply Hk
  isplitl [Hi Ri]
  · isplitl [Hi] <;> iassumption
  isplitl [Ho] <;> iassumption

/-! ## The handshake after a hop -/

omit [FloatOps F] in
theorem readyPay_hop (d : Bool) (l : Fin 3) {k : ℕ} (hk : k < 15) (c : Dev nD) :
    (readyPay d (1 + 15 * l.val + k) c : sProp 𝕄)
      = if k + 1 < nh d then iprop(lent d false l (k + 1) (tgt d c) ∗ lent d true l (k + 1) (tgt d c)) else iprop(emp) := by
  rw [show 1 + 15 * l.val + k = (15 * l.val + k) + 1 by omega]
  show (if (15 * l.val + k) % 15 + 1 < nh d then
      iprop(lent d false ⟨(15 * l.val + k) / 15 % 3, _⟩ ((15 * l.val + k) % 15 + 1) (tgt d c) ∗ lent d true ⟨(15 * l.val + k) / 15 % 3, _⟩ ((15 * l.val + k) % 15 + 1) (tgt d c))
    else iprop(emp)) = _
  have e : (⟨(15 * l.val + k) / 15 % 3, Nat.mod_lt _ (by decide)⟩ : Fin 3) = l := Fin.ext (show (15 * l.val + k) / 15 % 3 = l.val by omega)
  rw [e, show (15 * l.val + k) % 15 = k by omega]

/-- What a device keeps of one block over the handshake. -/
def chKeep (d w : Bool) (l : Fin 3) (k : ℕ) (c : Dev nD) : sProp 𝕄 :=
  iprop(slotAt d w l (par (k + 1)) c fullShare (held W d w l (k + 1) c) ∗ posn d w l (k + 1) c
    ∗ if k + 1 < nh d then iprop(emp) else slotAny d w l (par (k + 1 + 1)) c)

omit [FloatOps F] in
/-- The slot just sent from is lent, with its receive semaphore at the round of the next hop. -/
theorem chRet_lend (d w : Bool) (l : Fin 3) (k : ℕ) (c : Dev nD) :
    chRet W d w l k c ⊢ iprop(chKeep W d w l k c ∗ (if k + 1 < nh d then lent d w l (k + 1) c else iprop(emp)) ∗ reached ER (rcell (src d c)) (1 + 15 * l.val + k)) := by
  unfold chRet chKeep
  iintro ⟨Hs, Hp, Ha, Hr⟩
  unfold posn posAt
  icases Hp with ⟨⟨A1, #R1⟩, ⟨A2, #R2⟩, ⟨A3, #R3⟩, A4, #R4⟩
  by_cases h : k + 1 < nh d
  · rw [if_pos h, if_pos h]
    unfold lent
    isplitr [Ha Hr]
    · isplitl [Hs]; · iexact Hs
      isplitl [A1 A2 A3 A4]
      · isplitl [A1]
        · isplitl [A1]; · iexact A1
          iexact R1
        isplitl [A2]
        · isplitl [A2]; · iexact A2
          iexact R2
        isplitl [A3]
        · isplitl [A3]; · iexact A3
          iexact R3
        isplitl [A4]; · iexact A4
        iexact R4
      iempintro
    isplitl [Ha]
    · isplitl [Ha]; · iexact Ha
      iexact R3
    iexact Hr
  · rw [if_neg h, if_neg h]
    isplitr [Hr]
    · isplitl [Hs]; · iexact Hs
      isplitl [A1 A2 A3 A4]
      · isplitl [A1]
        · isplitl [A1]; · iexact A1
          iexact R1
        isplitl [A2]
        · isplitl [A2]; · iexact A2
          iexact R2
        isplitl [A3]
        · isplitl [A3]; · iexact A3
          iexact R3
        isplitl [A4]; · iexact A4
        iexact R4
      iexact Ha
    isplitr; · iempintro
    iexact Hr

omit [FloatOps F] in
theorem dirRet_lend (d : Bool) (l : Fin 3) {k : ℕ} (hk : k < 15) (c : Dev nD) :
    dirRet W d l k c ⊢ iprop((chKeep W d false l k c ∗ chKeep W d true l k c) ∗ readyPay d (1 + 15 * l.val + k) (src d c)
      ∗ reached ER (rcell (src d c)) (1 + 15 * l.val + k)) := by
  unfold dirRet
  rw [readyPay_hop d l hk, tgt_src]
  iintro ⟨Hi, Ho⟩
  ihave Hi := (chRet_lend W d false l k c) $$ Hi
  ihave Ho := (chRet_lend W d true l k c) $$ Ho
  icases Hi with ⟨Ki, Li, #R⟩
  icases Ho with ⟨Ko, Lo, -⟩
  isplitl [Ki Ko]; · isplitl [Ki] <;> iassumption
  isplitl [Li Lo]
  · by_cases h : k + 1 < nh d
    · simp only [if_pos h]; isplitl [Li] <;> iassumption
    · simp only [if_neg h]; iempintro
  iexact R

omit [FloatOps F] in
theorem dirSt_of (d : Bool) (l : Fin 3) {k : ℕ} (hk : k < 15) (c : Dev nD) :
    iprop((chKeep W d false l k c ∗ chKeep W d true l k c) ∗ readyPay d (1 + 15 * l.val + k) c) ⊢ dirSt W d l (k + 1) c := by
  unfold dirSt chKeep chSt other
  rw [readyPay_hop d l hk]
  by_cases h : k + 1 < nh d
  · simp only [if_pos h]
    iintro ⟨⟨⟨S1, P1, -⟩, S2, P2, -⟩, L1, L2⟩
    isplitl [S1 P1 L1]
    · isplitl [S1]; · iexact S1
      isplitl [P1] <;> iassumption
    isplitl [S2]; · iexact S2
    isplitl [P2] <;> iassumption
  · simp only [if_neg h]
    iintro ⟨⟨⟨S1, P1, L1⟩, S2, P2, L2⟩, -⟩
    isplitl [S1 P1 L1]
    · isplitl [S1]; · iexact S1
      isplitl [P1] <;> iassumption
    isplitl [S2]; · iexact S2
    isplitl [P2] <;> iassumption

theorem wp_handshake (l : Fin 3) (k : ℕ) (hk : k < 15) (c : Dev nD) {O' : CellTallies nD τ sig ℕ} (O : CellTallies nD τ sig ℕ)
    (hO : O' = O + shakeOwe c (2 * (16 * l.val + k) + 3)) (hab : Above (2 * (16 * l.val + k) + 3) O) {α : Type} (kk : PUnit → Prog _ α) (Q : α → sProp 𝕄) :
    iprop(ctx W ∗ dirRet W false l k c ∗ dirRet W true l k c ∗ shTok (1 + 15 * l.val + k) (2 * (16 * l.val + k) + 3) c ∗ posAt (rcell c) (1 + 15 * l.val + k) ∗ ow c O')
      ⊢ iprop(((dirSt W false l (k + 1) c ∗ dirSt W true l (k + 1) c ∗ posAt (rcell c) (1 + 15 * l.val + (k + 1)) ∗ ow c O) -∗ WP c (kk ⟨⟩) Q) -∗ WP c (shake c >>= kk) Q) := by
  unfold shTok
  iintro ⟨#Hctx, Hf, Hb, ⟨T1, T2, Hc⟩, Hp, HO⟩ Hk
  ihave Hf := (dirRet_lend W false l hk c) $$ Hf
  ihave Hb := (dirRet_lend W true l hk c) $$ Hb
  icases Hf with ⟨Kf, Lf, Rf⟩
  icases Hb with ⟨Kb, Lb, Rb⟩
  iapply (wp_shake W c (1 + 15 * l.val + k) (by omega) O _ (by omega) hO hab) $$ [HO T1 Rf Lf T2 Rb Lb Hc Hp]
  · isplitr; · iexact Hctx
    isplitl [HO]; · iexact HO
    isplitl [T1]; · iexact T1
    isplitl [Rf]; · iexact Rf
    isplitl [Lf]; · iexact Lf
    isplitl [T2]; · iexact T2
    isplitl [Rb]; · iexact Rb
    isplitl [Lb]; · iexact Lb
    isplitl [Hc] <;> iassumption
  iintro ⟨HO, Hp, Lf, Lb⟩
  iapply Hk
  isplitl [Kf Lf]
  · iapply (dirSt_of W false l hk c); isplitl [Kf] <;> iassumption
  isplitl [Kb Lb]
  · iapply (dirSt_of W true l hk c); isplitl [Kb] <;> iassumption
  isplitl [Hp]; · iexact Hp
  iexact HO

end Cert.Proof.KernelIdeal

end
-- ==== Proof.KernelIdeal.Layer.lean ====
/-
A layer: its blocks staged, sixteen hops, the sum of the contributions.
-/
module

public import proofs.«01_k».proof.Proof.KernelIdeal.Hops

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Operands and the result -/

/-- Reading a whole memref through the rectangle of all of it. -/
theorem readAt_full {sp : Space} {s : Shape} {e : EltTy} (m : Memref sig .tc sp s e) {off : Fin s.rank → Nat} (h : off = fun _ => 0)
    (inb : ∀ a, off a + s.size a ≤ s.size a) (f : m.view.ty.Contents (Elt F)) :
    m.view.readAt (Elt F) (Rect.unit off s.size inb).toLoadRect f = m.view.read (Elt F) f :=
  View.ld_unit_zero h inb _
/-- Writing one. -/
theorem read_write_full {sp : Space} {s : Shape} {e : EltTy} (m : Memref sig .tc sp s e) {off : Fin s.rank → Nat} (h : off = fun _ => 0)
    (inb : ∀ a, off a + s.size a ≤ s.size a) (f : m.view.ty.Contents (Elt F)) (v : s.Idx → Elt F e) :
    m.view.read (Elt F) ((m.access (Rect.unit off s.size inb)).write (Elt F) f v Finset.univ) = v :=
  (View.ld_unit_zero h inb _).symm.trans (View.read_write_univ (v := m.access (Rect.unit off s.size inb)) f v)

theorem zero2 : (![0, 0] : Fin 2 → Nat) = fun _ => 0 := funext fun a => by fin_cases a <;> rfl

/-- An operand at the narrow format. -/
def nI (X : FVec F S256x512 .f32) : FVec F S256x512 .bf16 := truncf .bf16 (shapeCast S256x512 X shapeCasts_S256x512_S256x512 : FVec F S256x512 .f32) bitsLt_bf16_f32
def nO (X : FVec F S512x256 .f32) : FVec F S512x256 .bf16 := truncf .bf16 (shapeCast S512x256 X shapeCasts_S512x256_S512x256 : FVec F S512x256 .f32) bitsLt_bf16_f32

/-- A whole staging buffer of device `c` at given contents. -/
abbrev opnd {s : Shape} (c : Dev nD) (a : Memref sig .tc .vmem s .f32) (X : FVec F s .f32) : sProp 𝕄 := owns (c : Thread nD τ) a fullShare X

theorem wp_inI (c : Dev nD) (a : Memref sig .tc .vmem S256x512 .f32) (X : FVec F S256x512 .f32) {α : Type} (kk : FVec F S256x512 .bf16 → Prog _ α) (Q : α → sProp 𝕄) :
    opnd c a X ⊢ iprop((opnd c a X -∗ WP c (kk (nI X)) Q) -∗ WP c (inI a >>= kk) Q) := by
  unfold opnd owns inI
  simp only [Prog.lift, Prog.bind_op, Prog.bind_ret, Prog.pure_eq_ret, Prog.bind_assoc]
  iintro ⟨%f, %hf, H⟩ Hk
  iapply (wp_load 𝒱₀ (c : Thread nD τ) none Set.univ (m := a) (S := a.view.set) (q := fullShare) (f := f) (View.setOn_subset_set _ _)) $$ H
  iintro H
  rw [readAt_full a zero2 _ f, hf]
  iapply Hk
  iexists f
  isplitr; · ipureintro; exact hf
  iexact H
theorem wp_inO (c : Dev nD) (a : Memref sig .tc .vmem S512x256 .f32) (X : FVec F S512x256 .f32) {α : Type} (kk : FVec F S512x256 .bf16 → Prog _ α) (Q : α → sProp 𝕄) :
    opnd c a X ⊢ iprop((opnd c a X -∗ WP c (kk (nO X)) Q) -∗ WP c (inO a >>= kk) Q) := by
  unfold opnd owns inO
  simp only [Prog.lift, Prog.bind_op, Prog.bind_ret, Prog.pure_eq_ret, Prog.bind_assoc]
  iintro ⟨%f, %hf, H⟩ Hk
  iapply (wp_load 𝒱₀ (c : Thread nD τ) none Set.univ (m := a) (S := a.view.set) (q := fullShare) (f := f) (View.setOn_subset_set _ _)) $$ H
  iintro H
  rw [readAt_full a zero2 _ f, hf]
  iapply Hk
  iexists f
  isplitr; · ipureintro; exact hf
  iexact H

theorem wp_putOut (c : Dev nD) (a : Memref sig .tc .vmem S512x256 .f32) (ha : a.IsWhole) (X v : FVec F S512x256 .f32) {α : Type} (kk : PUnit → Prog _ α) (Q : α → sProp 𝕄) :
    opnd c a X ⊢ iprop((opnd c a v -∗ WP c (kk ⟨⟩) Q) -∗ WP c (putOut a ha v >>= kk) Q) := by
  unfold opnd owns putOut
  simp only [Prog.lift, Prog.bind_op, Prog.bind_ret, Prog.pure_eq_ret, Prog.bind_assoc]
  iintro ⟨%f, %hf, H⟩ Hk
  iapply (wp_load 𝒱₀ (c : Thread nD τ) none Set.univ (m := a) (S := a.view.set) (q := fullShare) (f := f) (View.setOn_subset_set _ _)) $$ H
  iintro H
  iapply (wp_store 𝒱₀ (c : Thread nD τ) none Set.univ (m := a) (r := Rect.unit (s := S512x256) ![0, 0] S512x256.size inb_S512x256_S512x256_0_0)
    (Mk := Finset.univ) (S := a.view.set) (f := f) (View.set_slice_subset _ _)) $$ H
  iintro H
  iapply Hk
  iexists _
  isplitr
  rotate_left
  · iexact H
  · ipureintro; exact read_write_full a zero2 _ f v

variable (W : (w : Bool) → Fin 3 → Dev nD → Blk F w)

/-! ## Whole hops -/

/-- What a device holds before hop `k` of layer `l`. -/
def St (l : Fin 3) (k : ℕ) (c : Dev nD) : sProp 𝕄 :=
  iprop(dirSt W false l k c ∗ dirSt W true l k c ∗ posAt (rcell c) (1 + 15 * l.val + k) ∗ ow c (owe c (16 * l.val + k)) ∗ toks c (16 * l.val + k))
/-- While the hop is under way. -/
def Mid (l : Fin 3) (k : ℕ) (c : Dev nD) : sProp 𝕄 :=
  iprop(dirMid W false l k c ∗ dirMid W true l k c ∗ posAt (rcell c) (1 + 15 * l.val + k)
    ∗ ow c (owe c (16 * l.val + k + 1) + shakeOwe c (2 * (16 * l.val + k) + 3)) ∗ toks c (16 * l.val + k + 1)
    ∗ shTok (1 + 15 * l.val + k) (2 * (16 * l.val + k) + 3) c)

theorem wp_starts (l : Fin 3) (k : ℕ) (hk : k < 15) (c : Dev nD) {α : Type} (kk : PUnit → Prog _ α) (Q : α → sProp 𝕄) :
    iprop(ctx W ∗ St W l k c)
      ⊢ iprop((Mid W l k c -∗ WP c (kk ⟨⟩) Q) -∗ WP c (hopStart false l (par k) (par (k + 1)) c >>= fun _ => hopStart true l (par k) (par (k + 1)) c >>= kk) Q) := by
  unfold St Mid
  have hl := l.isLt
  rw [toks_succ c (show 16 * l.val + k < 48 by omega), hopTok_eq c l (by omega), owe_succ c (show 16 * l.val + k < 48 by omega), hopOwe_lt c l hk]
  unfold hopTok'
  rw [if_neg (show ¬ k = 15 by omega)]
  iintro ⟨#Hctx, Hf, Hb, Hp, HO, ⟨Tf, Tb, Ts⟩, T⟩ Hk
  unfold posAt
  icases Hp with ⟨Hp, #Hr⟩
  iapply (wp_hopStart W false l k (by unfold nh; simp; omega) c _ (add_assoc _ _ _).symm) $$ [Hf Tf HO]
  · isplitr; · iexact Hctx
    isplitl [Hf]; · iexact Hf
    isplitl [Tf]; · iexact Tf
    isplitr; · iexact Hr
    iexact HO
  iintro ⟨Hf, HO⟩
  iapply (wp_hopStart W true l k (by unfold nh; simp; omega) c _ (add_assoc _ _ _).symm) $$ [Hb Tb HO]
  · isplitr; · iexact Hctx
    isplitl [Hb]; · iexact Hb
    isplitl [Tb]; · iexact Tb
    isplitr; · iexact Hr
    iexact HO
  iintro ⟨Hb, HO⟩
  iapply Hk
  isplitl [Hf]; · iexact Hf
  isplitl [Hb]; · iexact Hb
  isplitl [Hp]
  · isplitl [Hp]; · iexact Hp
    iexact Hr
  isplitl [HO]; · iexact HO
  isplitl [T] <;> iassumption

theorem wp_ends (l : Fin 3) (k : ℕ) (hk : k < 15) (c : Dev nD) {α : Type} (kk : PUnit → Prog _ α) (Q : α → sProp 𝕄) :
    iprop(ctx W ∗ Mid W l k c)
      ⊢ iprop((St W l (k + 1) c -∗ WP c (kk ⟨⟩) Q)
        -∗ WP c (hopWait false l (par k) (par (k + 1)) >>= fun _ => hopWait true l (par k) (par (k + 1)) >>= fun _ => shake c >>= kk) Q) := by
  unfold St Mid
  have hl := l.isLt
  have hab : Above (2 * (16 * l.val + k) + 3) (owe c (16 * l.val + k + 1)) := above_owe c _ (by omega)
  have hab' : Above (2 * (16 * l.val + k) + 2) (owe c (16 * l.val + k + 1) + shakeOwe c (2 * (16 * l.val + k) + 3)) :=
    above_add (above_owe c _ (by omega)) (above_shakeOwe c (by omega) (by omega))
  iintro ⟨#Hctx, Hf, Hb, Hp, HO, T, Ts⟩ Hk
  iapply (wp_hopWait W false l k (by unfold nh; simp; omega) c hab') $$ [Hf HO]
  · isplitr; · iexact Hctx
    isplitl [Hf] <;> iassumption
  iintro ⟨Hf, HO⟩
  iapply (wp_hopWait W true l k (by unfold nh; simp; omega) c hab') $$ [Hb HO]
  · isplitr; · iexact Hctx
    isplitl [Hb] <;> iassumption
  iintro ⟨Hb, HO⟩
  iapply (wp_handshake W l k hk c (owe c (16 * l.val + k + 1)) rfl hab) $$ [Hf Hb Ts Hp HO]
  · isplitr; · iexact Hctx
    isplitl [Hf]; · iexact Hf
    isplitl [Hb]; · iexact Hb
    isplitl [Ts]; · iexact Ts
    isplitl [Hp] <;> iassumption
  iintro ⟨Hf, Hb, Hp, HO⟩
  iapply Hk
  isplitl [Hf]; · iexact Hf
  isplitl [Hb]; · iexact Hb
  isplitl [Hp]; · iexact Hp
  isplitl [HO]; · iexact HO
  iexact T

/-- The running sum after hop `k`. -/
def accAt (l : Fin 3) (x : FVec F S512x256 .bf16) (c : Dev nD) : ℕ → FVec F S512x256 .f32
  | 0 => C W false l x 0 c
  | k + 1 => addf (addf (accAt l x c k) (C W false l x (k + 1) c)) (C W true l x (k + 1) c)
/-- A layer's result. -/
def layerOut (l : Fin 3) (x : FVec F S512x256 .bf16) (c : Dev nD) : FVec F S512x256 .f32 :=
  addf (accAt W l x c 15) (C W false l x 16 c)

theorem wp_hop (l : Fin 3) (k : ℕ) (hk : k < 15) (s r : Fin 2) (hs : par k = s) (hr : par (k + 1) = r) (c : Dev nD)
    (x : FVec F S512x256 .bf16) (acc : FVec F S512x256 .f32) {α : Type} (kk : FVec F S512x256 .f32 → Prog _ α) (Q : α → sProp 𝕄) :
    iprop(ctx W ∗ St W l k c)
      ⊢ iprop((St W l (k + 1) c -∗ WP c (kk (addf (addf acc (C W false l x k c)) (C W true l x k c))) Q) -∗ WP c (hop l s r c x acc >>= kk) Q) := by
  subst hs hr
  unfold hop
  simp only [Prog.bind_ret, Prog.pure_eq_ret, Prog.bind_assoc]
  iintro ⟨#Hctx, HS⟩ Hk
  iapply (wp_starts W l k hk c) $$ [HS]
  · isplitr; · iexact Hctx
    iexact HS
  unfold Mid
  iintro ⟨Hf, Hb, HR⟩
  iapply (wp_contribMid W false l k c x) $$ Hf; iintro Hf
  iapply (wp_contribMid W true l k c x) $$ Hb; iintro Hb
  iapply (wp_ends W l k hk c) $$ [Hf Hb HR]
  · isplitr; · iexact Hctx
    unfold Mid
    isplitl [Hf]; · iexact Hf
    isplitl [Hb] <;> iassumption
  iintro HS
  iapply Hk
  iexact HS

theorem wp_hopFirst (l : Fin 3) (c : Dev nD) (x : FVec F S512x256 .bf16) {α : Type} (kk : FVec F S512x256 .f32 → Prog _ α) (Q : α → sProp 𝕄) :
    iprop(ctx W ∗ St W l 0 c)
      ⊢ iprop((St W l 1 c -∗ WP c (kk (accAt W l x c 0)) Q) -∗ WP c (hopFirst l c x >>= kk) Q) := by
  unfold hopFirst
  simp only [Prog.bind_ret, Prog.pure_eq_ret, Prog.bind_assoc]
  iintro ⟨#Hctx, HS⟩ Hk
  iapply (wp_starts W l 0 (by omega) c) $$ [HS]
  · isplitr; · iexact Hctx
    iexact HS
  unfold Mid
  iintro ⟨Hf, HR⟩
  iapply (wp_contribMid W false l 0 c x) $$ Hf; iintro Hf
  iapply (wp_ends W l 0 (by omega) c) $$ [Hf HR]
  · isplitr; · iexact Hctx
    unfold Mid
    isplitl [Hf] <;> iassumption
  iintro HS
  iapply Hk
  iexact HS

/-- What a device holds after a layer. -/
def Done (l : Fin 3) (c : Dev nD) : sProp 𝕄 :=
  iprop(dirSt W false l 16 c ∗ dirSt W true l 15 c)
/-- What passes from layer to layer: the place in the handshakes, the debt, the rights. -/
def Run (h : ℕ) (c : Dev nD) : sProp 𝕄 :=
  iprop(posAt (rcell c) (1 + 15 * h) ∗ ow c (owe c (16 * h)) ∗ toks c (16 * h))

end Cert.Proof.KernelIdeal

end
-- ==== Proof.KernelIdeal.Layers.lean ====
/-
The last hop, the loop over the hops, the staging, and a layer as one step.
-/
module

public import proofs.«01_k».proof.Proof.KernelIdeal.Layer

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (W : (w : Bool) → Fin 3 → Dev nD → Blk F w)

omit [FloatOps F] in
/-- After the last hop nothing is lent any more. -/
theorem dirRet_done (l : Fin 3) (c : Dev nD) : dirRet W false l 15 c ⊢ dirSt W false l 16 c := by
  unfold dirRet dirSt chRet chSt other
  simp only [if_neg (show ¬ 15 + 1 < nh false by decide), if_neg (show ¬ 16 < nh false by decide)]
  iintro ⟨⟨S1, P1, L1, -⟩, S2, P2, L2, -⟩
  isplitl [S1 P1 L1]
  · isplitl [S1]; · iexact S1
    isplitl [P1] <;> iassumption
  isplitl [S2]; · iexact S2
  isplitl [P2] <;> iassumption

theorem wp_hopLast (l : Fin 3) (c : Dev nD) (x : FVec F S512x256 .bf16) {α : Type} (kk : FVec F S512x256 .f32 → Prog _ α) (Q : α → sProp 𝕄) :
    iprop(ctx W ∗ St W l 15 c)
      ⊢ iprop(((Done W l c ∗ Run (l.val + 1) c) -∗ WP c (kk (layerOut W l x c)) Q) -∗ WP c (hopLast l c x (accAt W l x c 14) >>= kk) Q) := by
  unfold hopLast St Run
  have hl := l.isLt
  rw [toks_succ c (show 16 * l.val + 15 < 48 by omega), hopTok_eq c l (by omega), owe_succ c (show 16 * l.val + 15 < 48 by omega), hopOwe_last c l]
  unfold hopTok'
  rw [if_pos rfl]
  simp only [Prog.bind_ret, Prog.pure_eq_ret, Prog.bind_assoc]
  iintro ⟨#Hctx, Hf, Hb, Hp, HO, Tf, T⟩ Hk
  unfold posAt
  icases Hp with ⟨Hp, #Hr⟩
  iapply (wp_hopStart W false l 15 (by decide) c _ rfl) $$ [Hf Tf HO]
  · isplitr; · iexact Hctx
    isplitl [Hf]; · iexact Hf
    isplitl [Tf]; · iexact Tf
    isplitr; · iexact Hr
    iexact HO
  iintro ⟨Hf, HO⟩
  iapply (wp_contribMid W false l 15 c x) $$ Hf; iintro Hf
  iapply (wp_contribSt W true l 15 c x) $$ Hb; iintro Hb
  iapply (wp_hopWait W false l 15 (by decide) c (above_owe c (16 * l.val + 15 + 1) (by omega))) $$ [Hf HO]
  · isplitr; · iexact Hctx
    isplitl [Hf] <;> iassumption
  iintro ⟨Hf, HO⟩
  ihave Hf := (dirRet_done W l c) $$ Hf
  iapply (wp_contribSt W false l 16 c x) $$ Hf; iintro Hf
  iapply Hk
  isplitl [Hf Hb]
  · unfold Done; isplitl [Hf] <;> iassumption
  rw [show 1 + 15 * (l.val + 1) = 1 + 15 * l.val + 15 by omega, show 16 * (l.val + 1) = 16 * l.val + 15 + 1 by omega]
  isplitl [Hp]
  · isplitl [Hp]; · iexact Hp
    iexact Hr
  isplitl [HO] <;> iassumption

theorem lp_trips : Scf.trips lp.lb lp.ub lp.st = 7 := by decide +kernel

/-- What holds at the head of trip `t`. -/
def Inv (l : Fin 3) (c : Dev nD) (x : FVec F S512x256 .bf16) (t : ℕ) (acc : FVec F S512x256 .f32) : sProp 𝕄 :=
  iprop(⌜acc = accAt W l x c (2 * t)⌝ ∗ ctx W ∗ St W l (2 * t + 1) c)

theorem wp_hopPair (l : Fin 3) (c : Dev nD) (x : FVec F S512x256 .bf16) (t : ℕ) (ht : t < 7) (acc : FVec F S512x256 .f32) :
    Inv W l c x t acc ⊢ WP c (hopPair l c x acc) (Inv W l c x (t + 1)) := by
  unfold Inv hopPair
  iintro ⟨%ha, #Hctx, HS⟩
  subst ha
  iapply (wp_hop W l (2 * t + 1) (by omega) 1 0 (Fin.ext (show (2 * t + 1) % 2 = 1 by omega)) (Fin.ext (show (2 * t + 1 + 1) % 2 = 0 by omega)) c x) $$ [HS]
  · isplitr; · iexact Hctx
    iexact HS
  iintro HS
  rw [← Prog.bind_pure (hop l 0 1 c x _)]
  iapply (wp_hop W l (2 * t + 1 + 1) (by omega) 0 1 (Fin.ext (show (2 * t + 1 + 1) % 2 = 0 by omega)) (Fin.ext (show (2 * t + 1 + 1 + 1) % 2 = 1 by omega)) c x) $$ [HS]
  · isplitr; · iexact Hctx
    iexact HS
  iintro HS
  simp only [Prog.pure_eq_ret]
  unfold WP
  rw [wp_ret]
  imodintro
  isplitr
  · ipureintro; rfl
  isplitr; · iexact Hctx
  iexact HS

/-- The loop: seven times two hops. -/
theorem wp_loop (l : Fin 3) (c : Dev nD) (x : FVec F S512x256 .bf16) {α : Type} (kk : FVec F S512x256 .f32 → Prog _ α) (Q : α → sProp 𝕄) :
    iprop(ctx W ∗ St W l 1 c)
      ⊢ iprop((St W l 15 c -∗ WP c (kk (accAt W l x c 14)) Q)
        -∗ WP c (Scf.Loop.for lp k0_t1_ok (accAt W l x c 0) (fun _ acc => hopPair l c x acc) >>= kk) Q) := by
  iintro ⟨#Hctx, HS⟩ Hk
  iapply (Scf.wp_for_bind _ _ _ lp.lb lp.ub lp.st k0_t1_ok (accAt W l x c 0) (fun _ acc => hopPair l c x acc) (Inv W l c x)
    (fun k acc => wp_hopPair W l c x k.val (lt_of_lt_of_eq k.isLt lp_trips) acc)) $$ [HS]
  · unfold Inv
    isplitr; · ipureintro; rfl
    isplitr; · iexact Hctx
    iexact HS
  rw [lp_trips]
  unfold Inv
  iintro %acc ⟨%ha, -, HS⟩
  subst ha
  iapply Hk
  iexact HS

/-! ## Staging -/

/-- One block before a layer: its own slot, the positions, the slot lent for the first hop. -/
def chPre (d w : Bool) (l : Fin 3) (c : Dev nD) : sProp 𝕄 :=
  iprop(slotAny d w l 0 c ∗ posn d w l 0 c ∗ lent d w l 0 (tgt d c))
def Pre (l : Fin 3) (c : Dev nD) : sProp 𝕄 :=
  iprop((chPre false false l c ∗ chPre false true l c) ∗ chPre true false l c ∗ chPre true true l c)

omit [FloatOps F] in
theorem chSt_zero (d w : Bool) (l : Fin 3) (c : Dev nD) :
    iprop(slotAt d w l 0 c fullShare (W w l c) ∗ posn d w l 0 c ∗ lent d w l 0 (tgt d c)) ⊢ chSt W d w l 0 c := by
  unfold chSt other
  rw [if_pos (show 0 < nh d by cases d <;> decide)]
  iintro H; iexact H

theorem wp_stage (l : Fin 3) (c : Dev nD) (ai : Memref sig .tc .vmem S256x512 .f32) (ao : Memref sig .tc .vmem S512x256 .f32)
    (Xi : FVec F S256x512 .f32) (Xo : FVec F S512x256 .f32) (hi : W false l c = nI Xi) (ho : W true l c = nO Xo)
    {α : Type} (kk : PUnit → Prog _ α) (Q : α → sProp 𝕄) :
    iprop(opnd c ai Xi ∗ opnd c ao Xo ∗ Pre l c)
      ⊢ iprop(((opnd c ai Xi ∗ opnd c ao Xo ∗ dirSt W false l 0 c ∗ dirSt W true l 0 c) -∗ WP c (kk ⟨⟩) Q) -∗ WP c (stage l ai ao >>= kk) Q) := by
  unfold stage Pre chPre dirSt
  simp only [Prog.bind_assoc]
  iintro ⟨Ai, Ao, ⟨⟨S1, P1, L1⟩, S2, P2, L2⟩, ⟨S3, P3, L3⟩, S4, P4, L4⟩ Hk
  iapply (wp_inI c ai Xi) $$ Ai; iintro Ai
  iapply (wp_inO c ao Xo) $$ Ao; iintro Ao
  rw [← hi, ← ho]
  iapply (wp_stageI c false l (W false l c)) $$ S1; iintro S1
  iapply (wp_stageO c false l (W true l c)) $$ S2; iintro S2
  iapply (wp_stageI c true l (W false l c)) $$ S3; iintro S3
  iapply (wp_stageO c true l (W true l c)) $$ S4; iintro S4
  iapply Hk
  isplitl [Ai]; · iexact Ai
  isplitl [Ao]; · iexact Ao
  isplitl [S1 P1 L1 S2 P2 L2]
  · isplitl [S1 P1 L1]
    · iapply (chSt_zero W false false l c); isplitl [S1]; · iexact S1
      isplitl [P1] <;> iassumption
    iapply (chSt_zero W false true l c); isplitl [S2]; · iexact S2
    isplitl [P2] <;> iassumption
  isplitl [S3 P3 L3]
  · iapply (chSt_zero W true false l c); isplitl [S3]; · iexact S3
    isplitl [P3] <;> iassumption
  iapply (chSt_zero W true true l c); isplitl [S4]; · iexact S4
  isplitl [P4] <;> iassumption

/-! ## A layer -/

theorem wp_layer (l : Fin 3) (c : Dev nD) (ai : Memref sig .tc .vmem S256x512 .f32) (ao : Memref sig .tc .vmem S512x256 .f32)
    (Xi : FVec F S256x512 .f32) (Xo : FVec F S512x256 .f32) (hi : W false l c = nI Xi) (ho : W true l c = nO Xo) (x : FVec F S512x256 .bf16)
    {α : Type} (kk : FVec F S512x256 .f32 → Prog _ α) (Q : α → sProp 𝕄) :
    iprop(ctx W ∗ opnd c ai Xi ∗ opnd c ao Xo ∗ Pre l c ∗ Run l.val c)
      ⊢ iprop(((opnd c ai Xi ∗ opnd c ao Xo ∗ Done W l c ∗ Run (l.val + 1) c) -∗ WP c (kk (layerOut W l x c)) Q) -∗ WP c (layer l ai ao c x >>= kk) Q) := by
  unfold layer
  simp only [Prog.bind_assoc]
  iintro ⟨#Hctx, Ai, Ao, HP, HR⟩ Hk
  iapply (wp_stage W l c ai ao Xi Xo hi ho) $$ [Ai Ao HP]
  · isplitl [Ai]; · iexact Ai
    isplitl [Ao] <;> iassumption
  iintro ⟨Ai, Ao, Hf, Hb⟩
  iapply (wp_hopFirst W l c x) $$ [Hf Hb HR]
  · isplitr; · iexact Hctx
    unfold St Run
    isplitl [Hf]; · iexact Hf
    isplitl [Hb]; · iexact Hb
    iexact HR
  iintro HS
  iapply (wp_loop W l c x) $$ [HS]
  · isplitr; · iexact Hctx
    iexact HS
  iintro HS
  iapply (wp_hopLast W l c x) $$ [HS]
  · isplitr; · iexact Hctx
    iexact HS
  iintro ⟨HD, HR⟩
  iapply Hk
  isplitl [Ai]; · iexact Ai
  isplitl [Ao]; · iexact Ao
  isplitl [HD] <;> iassumption

end Cert.Proof.KernelIdeal

end
-- ==== Proof.KernelIdeal.Scratch.lean ====
/-
A scratch buffer is its six slots.
-/
module

public import proofs.«01_k».proof.Proof.KernelIdeal.Base
public import Idealize.ShloMosaic.Lib.Ring

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The slots cut the buffer -/

theorem mem_rectI {l : Fin 3} {s : Fin 2} {i : S3x2x256x512.Idx} : i ∈ (rectI l s).set ↔ (i 0).val = l.val ∧ (i 1).val = s.val := by
  rw [Rect.mem_set_unit]
  constructor
  · intro h
    have h0 := h 0
    have h1 := h 1
    change l.val ≤ (i 0).val ∧ (i 0).val < l.val + 1 at h0
    change s.val ≤ (i 1).val ∧ (i 1).val < s.val + 1 at h1
    omega
  · rintro ⟨h0, h1⟩ a
    have ha := (i a).isLt
    fin_cases a
    · show l.val ≤ (i 0).val ∧ (i 0).val < l.val + 1; omega
    · show s.val ≤ (i 1).val ∧ (i 1).val < s.val + 1; omega
    · exact ⟨Nat.zero_le _, lt_of_lt_of_eq ha (Nat.zero_add _).symm⟩
    · exact ⟨Nat.zero_le _, lt_of_lt_of_eq ha (Nat.zero_add _).symm⟩
theorem mem_rectO {l : Fin 3} {s : Fin 2} {i : S3x2x512x256.Idx} : i ∈ (rectO l s).set ↔ (i 0).val = l.val ∧ (i 1).val = s.val := by
  rw [Rect.mem_set_unit]
  constructor
  · intro h
    have h0 := h 0
    have h1 := h 1
    change l.val ≤ (i 0).val ∧ (i 0).val < l.val + 1 at h0
    change s.val ≤ (i 1).val ∧ (i 1).val < s.val + 1 at h1
    omega
  · rintro ⟨h0, h1⟩ a
    have ha := (i a).isLt
    fin_cases a
    · show l.val ≤ (i 0).val ∧ (i 0).val < l.val + 1; omega
    · show s.val ≤ (i 1).val ∧ (i 1).val < s.val + 1; omega
    · exact ⟨Nat.zero_le _, lt_of_lt_of_eq ha (Nat.zero_add _).symm⟩
    · exact ⟨Nat.zero_le _, lt_of_lt_of_eq ha (Nat.zero_add _).symm⟩

theorem buf_set (d w : Bool) : (buf d w).view.set = Finset.univ := by
  cases d <;> cases w <;> exact View.set_whole _
theorem slot_setI (d : Bool) (l : Fin 3) (s : Fin 2) : (slot d false l s).view.set = (rectI l s).set.map (buf d false).view.emb :=
  (View.set_reshape (v := ((buf d false).slice (rectI l s) (fun _ => rfl)).view) _).trans (View.set_slice (v := (buf d false).view) _)
theorem slot_setO (d : Bool) (l : Fin 3) (s : Fin 2) : (slot d true l s).view.set = (rectO l s).set.map (buf d true).view.emb :=
  (View.set_reshape (v := ((buf d true).slice (rectO l s) (fun _ => rfl)).view) _).trans (View.set_slice (v := (buf d true).view) _)

theorem disjI (d : Bool) (p p' : Fin 3 × Fin 2) (h : p ≠ p') :
    Disjoint (α := Finset (buf d false).view.ty.Idx) ((rectI p.1 p.2).set.map (buf d false).view.emb) ((rectI p'.1 p'.2).set.map (buf d false).view.emb) := by
  rw [Finset.disjoint_map, Finset.disjoint_left]
  intro i hi hi'
  obtain ⟨a, b⟩ := mem_rectI.mp hi
  obtain ⟨a', b'⟩ := mem_rectI.mp hi'
  exact h (Prod.ext (Fin.ext (a.symm.trans a')) (Fin.ext (b.symm.trans b')))
theorem disjO (d : Bool) (p p' : Fin 3 × Fin 2) (h : p ≠ p') :
    Disjoint (α := Finset (buf d true).view.ty.Idx) ((rectO p.1 p.2).set.map (buf d true).view.emb) ((rectO p'.1 p'.2).set.map (buf d true).view.emb) := by
  rw [Finset.disjoint_map, Finset.disjoint_left]
  intro i hi hi'
  obtain ⟨a, b⟩ := mem_rectO.mp hi
  obtain ⟨a', b'⟩ := mem_rectO.mp hi'
  exact h (Prod.ext (Fin.ext (a.symm.trans a')) (Fin.ext (b.symm.trans b')))
theorem coverI (d : Bool) : (Finset.univ : Finset (Fin 3 × Fin 2)).biUnion (fun p => (rectI p.1 p.2).set.map (buf d false).view.emb) = Finset.univ := by
  rw [← buf_set d false]
  ext i
  simp only [Finset.mem_biUnion, Finset.mem_map, Finset.mem_univ, true_and, View.set]
  constructor
  · rintro ⟨p, x, -, rfl⟩; exact ⟨x, rfl⟩
  · rintro ⟨x, rfl⟩; exact ⟨(x 0, x 1), x, mem_rectI.mpr ⟨rfl, rfl⟩, rfl⟩
theorem coverO (d : Bool) : (Finset.univ : Finset (Fin 3 × Fin 2)).biUnion (fun p => (rectO p.1 p.2).set.map (buf d true).view.emb) = Finset.univ := by
  rw [← buf_set d true]
  ext i
  simp only [Finset.mem_biUnion, Finset.mem_map, Finset.mem_univ, true_and, View.set]
  constructor
  · rintro ⟨p, x, -, rfl⟩; exact ⟨x, rfl⟩
  · rintro ⟨x, rfl⟩; exact ⟨(x 0, x 1), x, mem_rectO.mpr ⟨rfl, rfl⟩, rfl⟩

/-! ## The buffer, whole and slot by slot -/

/-- A scratch buffer of device `c`, whole, at some contents. -/
def scr (d w : Bool) (c : Dev nD) : sProp 𝕄 :=
  iprop(∃ f : Buf (Elt F) ((buf d w).view.loc (c : Thread nD τ)), (buf d w).view.loc (c : Thread nD τ) ↦{fullShare} f)

/-- One slot's elements at some contents. -/
def cut {w : Bool} (d : Bool) (I : Finset (buf d w).view.ty.Idx) (c : Dev nD) : sProp 𝕄 :=
  iprop(∃ f : Buf (Elt F) ((buf d w).view.loc (c : Thread nD τ)), (buf d w).view.loc (c : Thread nD τ) ↦[I]{fullShare} f)

theorem slotAny_iffI (d : Bool) (l : Fin 3) (s : Fin 2) (c : Dev nD) :
    (slotAny d false l s c : sProp 𝕄)
      ⊣⊢ cut d ((rectI l s).set.map (buf d false).view.emb) c := by
  unfold slotAny slotAt owns cut
  constructor
  · iintro ⟨%X, %f, -, H⟩
    iexists f
    iapply (Entails.of_eq (congrArg (fun S => ((buf d false).view.loc (c : Thread nD τ) ↦[S]{fullShare} f : sProp 𝕄)) (slot_setI d l s)))
    iexact H
  · iintro ⟨%f, H⟩
    iexists ((slot d false l s).view.read (Elt F) f)
    iexists f
    isplitr
    rotate_left
    · iapply (Entails.of_eq (congrArg (fun S => ((buf d false).view.loc (c : Thread nD τ) ↦[S]{fullShare} f : sProp 𝕄)) (slot_setI d l s)).symm)
      iexact H
    · ipureintro; rfl
theorem slotAny_iffO (d : Bool) (l : Fin 3) (s : Fin 2) (c : Dev nD) :
    (slotAny d true l s c : sProp 𝕄)
      ⊣⊢ cut d ((rectO l s).set.map (buf d true).view.emb) c := by
  unfold slotAny slotAt owns cut
  constructor
  · iintro ⟨%X, %f, -, H⟩
    iexists f
    iapply (Entails.of_eq (congrArg (fun S => ((buf d true).view.loc (c : Thread nD τ) ↦[S]{fullShare} f : sProp 𝕄)) (slot_setO d l s)))
    iexact H
  · iintro ⟨%f, H⟩
    iexists ((slot d true l s).view.read (Elt F) f)
    iexists f
    isplitr
    rotate_left
    · iapply (Entails.of_eq (congrArg (fun S => ((buf d true).view.loc (c : Thread nD τ) ↦[S]{fullShare} f : sProp 𝕄)) (slot_setO d l s)).symm)
      iexact H
    · ipureintro; rfl

theorem cut_intro {w : Bool} (d : Bool) (I : Finset (buf d w).view.ty.Idx) (c : Dev nD) (f : Buf (Elt F) ((buf d w).view.loc (c : Thread nD τ))) :
    ((buf d w).view.loc (c : Thread nD τ) ↦[I]{fullShare} f : sProp 𝕄) ⊢ cut d I c := by
  unfold cut; iintro H; iexists f; iexact H

theorem scr_cut {w : Bool} (d : Bool) (I : Fin 3 × Fin 2 → Finset (buf d w).view.ty.Idx) (hd : ∀ p p', p ≠ p' → Disjoint (I p) (I p'))
    (hc : Finset.univ.biUnion I = Finset.univ) (c : Dev nD) : (scr d w c : sProp 𝕄) ⊢ bigSep Finset.univ fun p => cut d (I p) c := by
  unfold scr
  iintro ⟨%f, H⟩
  iapply ((Entails.of_eq (Ring.pointsTo_blocks (ℓ := (buf d w).view.loc (c : Thread nD τ)) I hd hc f)).trans
    (bigSep_mono (s := Finset.univ) (fun (p : Fin 3 × Fin 2) _ => cut_intro d (I p) c f)))
  iexact H
theorem cut_scr {w : Bool} (d : Bool) (I : Fin 3 × Fin 2 → Finset (buf d w).view.ty.Idx) (hd : ∀ p p', p ≠ p' → Disjoint (I p) (I p'))
    (hc : Finset.univ.biUnion I = Finset.univ) (c : Dev nD) : (bigSep Finset.univ fun p => cut d (I p) c) ⊢ (scr d w c : sProp 𝕄) :=
  Ring.pointsTo_blocks_join_exists (ℓ := (buf d w).view.loc (c : Thread nD τ)) I hd hc (View.junk (Val := Elt F) (buf d w).view)

theorem scr_split (d : Bool) : (w : Bool) → (c : Dev nD) →
    ((scr d w c : sProp 𝕄) ⊢ bigSep Finset.univ fun p : Fin 3 × Fin 2 => slotAny d w p.1 p.2 c)
  | false, c => (scr_cut d _ (disjI d) (coverI d) c).trans (bigSep_mono (s := Finset.univ) (fun (p : Fin 3 × Fin 2) _ => (slotAny_iffI d p.1 p.2 c).2))
  | true, c => (scr_cut d _ (disjO d) (coverO d) c).trans (bigSep_mono (s := Finset.univ) (fun (p : Fin 3 × Fin 2) _ => (slotAny_iffO d p.1 p.2 c).2))
theorem scr_join (d : Bool) : (w : Bool) → (c : Dev nD) →
    ((bigSep Finset.univ fun p : Fin 3 × Fin 2 => slotAny d w p.1 p.2 c) ⊢ (scr d w c : sProp 𝕄))
  | false, c => (bigSep_mono (s := Finset.univ) (fun (p : Fin 3 × Fin 2) _ => (slotAny_iffI d p.1 p.2 c).1)).trans (cut_scr d _ (disjI d) (coverI d) c)
  | true, c => (bigSep_mono (s := Finset.univ) (fun (p : Fin 3 × Fin 2) _ => (slotAny_iffO d p.1 p.2 c).1)).trans (cut_scr d _ (disjO d) (coverO d) c)

end Cert.Proof.KernelIdeal

end
-- ==== Proof.KernelIdeal.Group.lean ====
/-
Resources of a device's forty-eight transfer semaphores and twenty-four slots, grouped by direction, layer and weight.
-/
module

public import proofs.«01_k».proof.Proof.KernelIdeal.Layers
public import proofs.«01_k».proof.Proof.KernelIdeal.Scratch

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (W : (w : Bool) → Fin 3 → Dev nD → Blk F w)

omit [FloatOps F] in
theorem bigSep_fin2 (Φ : Fin 2 → sProp 𝕄) : bigSep Finset.univ Φ = iprop(Φ 0 ∗ Φ 1) := bigSep_univ_eq_bigSepL [0, 1] (by decide) (by decide) Φ
omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_bool (Φ : Bool → sProp 𝕄) : bigSep Finset.univ Φ = iprop(Φ false ∗ Φ true) := bigSep_univ_eq_bigSepL [false, true] (by decide) (by decide) Φ

/-! ## The channels, grouped -/

/-- All channels: by direction, layer, weight; the four semaphores of a slot pair side by side. -/
def grp (Φ : Ch → sProp 𝕄) (d : Bool) (l : Fin 3) (w : Bool) : sProp 𝕄 :=
  iprop(Φ (d, w, false, l, 0) ∗ Φ (d, w, false, l, 1) ∗ Φ (d, w, true, l, 1) ∗ Φ (d, w, true, l, 0))
def both (Φ : (d : Bool) → Fin 3 → (w : Bool) → sProp 𝕄) (d : Bool) : sProp 𝕄 :=
  bigSep Finset.univ fun l : Fin 3 => iprop(Φ d l false ∗ Φ d l true)
def allCh (Φ : (d : Bool) → Fin 3 → (w : Bool) → sProp 𝕄) : sProp 𝕄 := iprop(both Φ false ∗ both Φ true)

def chEquiv : Bool × Fin 3 × Bool × Bool × Fin 2 ≃ Ch where
  toFun := fun (d, l, w, x, s) => (d, w, x, l, s)
  invFun := fun (d, w, x, l, s) => (d, l, w, x, s)
  left_inv := fun _ => rfl
  right_inv := fun _ => rfl

omit [FloatOps F] in
theorem bigSep_ch (Φ : Ch → sProp 𝕄) : bigSep Finset.univ Φ = allCh (grp Φ) := by
  unfold allCh both
  rw [bigSep_univ_equiv chEquiv, bigSep_univ_prod, bigSep_bool]
  have h (d : Bool) : (bigSep Finset.univ fun b : Fin 3 × Bool × Bool × Fin 2 => Φ (chEquiv (d, b)))
      = bigSep Finset.univ fun l : Fin 3 => iprop(grp Φ d l false ∗ grp Φ d l true) := by
    rw [bigSep_univ_prod]
    refine bigSep_congr fun l _ => ?_
    rw [bigSep_univ_prod, bigSep_bool]
    have h' (w : Bool) : (bigSep Finset.univ fun b : Bool × Fin 2 => Φ (chEquiv (d, l, w, b))) = grp Φ d l w := by
      rw [bigSep_univ_eq_bigSepL [(false, 0), (false, 1), (true, 1), (true, 0)] (by decide) (by decide)]
      rfl
    rw [h', h']
  rw [h, h]

omit [FloatOps F] in
theorem allCh_sep (Φ Ψ : (d : Bool) → Fin 3 → (w : Bool) → sProp 𝕄) :
    allCh (fun d l w => iprop(Φ d l w ∗ Ψ d l w)) ⊢ iprop(allCh Φ ∗ allCh Ψ) := by
  unfold allCh both
  rw [bigSep_fin3, bigSep_fin3, bigSep_fin3, bigSep_fin3, bigSep_fin3, bigSep_fin3]
  iintro ⟨⟨⟨⟨A1, B1⟩, A2, B2⟩, ⟨⟨A3, B3⟩, A4, B4⟩, ⟨A5, B5⟩, A6, B6⟩, ⟨⟨A7, B7⟩, A8, B8⟩, ⟨⟨A9, B9⟩, A10, B10⟩, ⟨A11, B11⟩, A12, B12⟩
  isplitl [A1 A2 A3 A4 A5 A6 A7 A8 A9 A10 A11 A12]
  · isplitl [A1 A2 A3 A4 A5 A6]
    · isplitl [A1 A2]; · isplitl [A1] <;> iassumption
      isplitl [A3 A4]; · isplitl [A3] <;> iassumption
      isplitl [A5] <;> iassumption
    isplitl [A7 A8]; · isplitl [A7] <;> iassumption
    isplitl [A9 A10]; · isplitl [A9] <;> iassumption
    isplitl [A11] <;> iassumption
  · isplitl [B1 B2 B3 B4 B5 B6]
    · isplitl [B1 B2]; · isplitl [B1] <;> iassumption
      isplitl [B3 B4]; · isplitl [B3] <;> iassumption
      isplitl [B5] <;> iassumption
    isplitl [B7 B8]; · isplitl [B7] <;> iassumption
    isplitl [B9 B10]; · isplitl [B9] <;> iassumption
    isplitl [B11] <;> iassumption

omit [FloatOps F] in
theorem allCh_join (Φ Ψ : (d : Bool) → Fin 3 → (w : Bool) → sProp 𝕄) :
    iprop(allCh Φ ∗ allCh Ψ) ⊢ allCh (fun d l w => iprop(Φ d l w ∗ Ψ d l w)) := by
  unfold allCh both
  rw [bigSep_fin3, bigSep_fin3, bigSep_fin3, bigSep_fin3, bigSep_fin3, bigSep_fin3]
  iintro ⟨⟨⟨⟨A1, A2⟩, ⟨A3, A4⟩, A5, A6⟩, ⟨A7, A8⟩, ⟨A9, A10⟩, A11, A12⟩, ⟨⟨B1, B2⟩, ⟨B3, B4⟩, B5, B6⟩, ⟨B7, B8⟩, ⟨B9, B10⟩, B11, B12⟩
  isplitl [A1 A2 A3 A4 A5 A6 B1 B2 B3 B4 B5 B6]
  · isplitl [A1 A2 B1 B2]
    · isplitl [A1 B1]; · isplitl [A1] <;> iassumption
      isplitl [A2] <;> iassumption
    isplitl [A3 A4 B3 B4]
    · isplitl [A3 B3]; · isplitl [A3] <;> iassumption
      isplitl [A4] <;> iassumption
    isplitl [A5 B5]; · isplitl [A5] <;> iassumption
    isplitl [A6] <;> iassumption
  · isplitl [A7 A8 B7 B8]
    · isplitl [A7 B7]; · isplitl [A7] <;> iassumption
      isplitl [A8] <;> iassumption
    isplitl [A9 A10 B9 B10]
    · isplitl [A9 B9]; · isplitl [A9] <;> iassumption
      isplitl [A10] <;> iassumption
    isplitl [A11 B11]; · isplitl [A11] <;> iassumption
    isplitl [A12] <;> iassumption

/-! ## The four scratch buffers -/

def pair (c : Dev nD) (d : Bool) (l : Fin 3) (w : Bool) : sProp 𝕄 := iprop(slotAny d w l 0 c ∗ slotAny d w l 1 c)

omit [FloatOps F] in
theorem slots_eq (d w : Bool) (c : Dev nD) :
    (bigSep Finset.univ fun p : Fin 3 × Fin 2 => slotAny d w p.1 p.2 c : sProp 𝕄) = bigSep Finset.univ fun l : Fin 3 => pair c d l w := by
  rw [bigSep_univ_prod]
  exact bigSep_congr fun l _ => bigSep_fin2 _

theorem scrs_split (c : Dev nD) :
    iprop((scr false false c ∗ scr false true c) ∗ scr true false c ∗ scr true true c) ⊢ (allCh (pair c) : sProp 𝕄) := by
  have h (d : Bool) : iprop(scr d false c ∗ scr d true c) ⊢ (both (pair c) d : sProp 𝕄) := by
    unfold both
    rw [bigSep_sep', ← slots_eq, ← slots_eq]
    iintro ⟨H1, H2⟩
    isplitl [H1]
    · iapply (scr_split d false c); iexact H1
    · iapply (scr_split d true c); iexact H2
  unfold allCh
  iintro ⟨H1, H2⟩
  isplitl [H1]
  · iapply (h false); iexact H1
  · iapply (h true); iexact H2

theorem scrs_join (c : Dev nD) :
    (allCh (pair c) : sProp 𝕄) ⊢ iprop((scr false false c ∗ scr false true c) ∗ scr true false c ∗ scr true true c) := by
  have h (d : Bool) : (both (pair c) d : sProp 𝕄) ⊢ iprop(scr d false c ∗ scr d true c) := by
    unfold both
    rw [bigSep_sep', ← slots_eq, ← slots_eq]
    iintro ⟨H1, H2⟩
    isplitl [H1]
    · iapply (scr_join d false c); iexact H1
    · iapply (scr_join d true c); iexact H2
  unfold allCh
  iintro ⟨H1, H2⟩
  isplitl [H1]
  · iapply (h false); iexact H1
  · iapply (h true); iexact H2

end Cert.Proof.KernelIdeal

end
-- ==== Proof.KernelIdeal.Ends.lean ====
/-
Before the layers: the first handshake, which lends every slot 1. After them: the cells of the protocol close and the slots
are the device's own again.
-/
module

public import proofs.«01_k».proof.Proof.KernelIdeal.Group

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (W : (w : Bool) → Fin 3 → Dev nD → Blk F w)

/-! ## The first handshake -/

/-- What the owner has of one slot pair at the start. -/
def chRaw (c : Dev nD) (d : Bool) (l : Fin 3) (w : Bool) : sProp 𝕄 := iprop(pair c d l w ∗ posn d w l 0 c)
/-- What it keeps of it over the first handshake. -/
def chKept (c : Dev nD) (d : Bool) (l : Fin 3) (w : Bool) : sProp 𝕄 := iprop(slotAny d w l 0 c ∗ posn d w l 0 c)

omit [FloatOps F] in
theorem chRaw_lend (c : Dev nD) (d : Bool) (l : Fin 3) (w : Bool) : (chRaw c d l w : sProp 𝕄) ⊢ iprop(chKept c d l w ∗ lent d w l 0 c) := by
  unfold chRaw chKept pair posn posAt lent
  iintro ⟨⟨H0, H1⟩, ⟨A1, #R1⟩, ⟨A2, #R2⟩, ⟨A3, #R3⟩, A4, #R4⟩
  isplitr [H1]
  · isplitl [H0]; · iexact H0
    isplitl [A1]
    · isplitl [A1]; · iexact A1
      iexact R1
    isplitl [A2]
    · isplitl [A2]; · iexact A2
      iexact R2
    isplitl [A3]
    · isplitl [A3]; · iexact A3
      iexact R3
    isplitl [A4]; · iexact A4
    iexact R4
  isplitl [H1]; · iexact H1
  iexact R3

omit [FloatOps F] in
theorem readyPay_zero (d : Bool) (c : Dev nD) :
    (readyPay d 0 c : sProp 𝕄) = both (fun d l w => lent d w l 0 (tgt d c)) d := rfl

omit [FloatOps F] in
theorem both_sep (Φ Ψ : (d : Bool) → Fin 3 → (w : Bool) → sProp 𝕄) (d : Bool) :
    both (fun d l w => iprop(Φ d l w ∗ Ψ d l w)) d ⊣⊢ iprop(both Φ d ∗ both Ψ d) := by
  unfold both
  rw [bigSep_fin3, bigSep_fin3, bigSep_fin3]
  constructor
  · iintro ⟨⟨⟨A1, B1⟩, A2, B2⟩, ⟨⟨A3, B3⟩, A4, B4⟩, ⟨A5, B5⟩, A6, B6⟩
    isplitl [A1 A2 A3 A4 A5 A6]
    · isplitl [A1 A2]; · isplitl [A1] <;> iassumption
      isplitl [A3 A4]; · isplitl [A3] <;> iassumption
      isplitl [A5] <;> iassumption
    isplitl [B1 B2]; · isplitl [B1] <;> iassumption
    isplitl [B3 B4]; · isplitl [B3] <;> iassumption
    isplitl [B5] <;> iassumption
  · iintro ⟨⟨⟨A1, A2⟩, ⟨A3, A4⟩, A5, A6⟩, ⟨B1, B2⟩, ⟨B3, B4⟩, B5, B6⟩
    isplitl [A1 A2 B1 B2]
    · isplitl [A1 B1]; · isplitl [A1] <;> iassumption
      isplitl [A2] <;> iassumption
    isplitl [A3 A4 B3 B4]
    · isplitl [A3 B3]; · isplitl [A3] <;> iassumption
      isplitl [A4] <;> iassumption
    isplitl [A5 B5]; · isplitl [A5] <;> iassumption
    isplitl [A6] <;> iassumption

omit [FloatOps F] in
theorem both_mono {Φ Ψ : (d : Bool) → Fin 3 → (w : Bool) → sProp 𝕄} (h : ∀ d l w, Φ d l w ⊢ Ψ d l w) (d : Bool) : both Φ d ⊢ both Ψ d := by
  unfold both
  refine bigSep_mono (s := Finset.univ) (fun (l : Fin 3) _ => ?_)
  show iprop(Φ d l false ∗ Φ d l true) ⊢ iprop(Ψ d l false ∗ Ψ d l true)
  iintro ⟨H1, H2⟩
  isplitl [H1]
  · iapply (h d l false); iexact H1
  · iapply (h d l true); iexact H2

omit [FloatOps F] in
theorem raw_lend (d : Bool) (c : Dev nD) : (both (chRaw c) d : sProp 𝕄) ⊢ iprop(both (chKept c) d ∗ readyPay d 0 (src d c)) := by
  rw [show (readyPay d 0 (src d c) : sProp 𝕄) = both (fun d l w => lent d w l 0 c) d from by
    show (bigSep Finset.univ fun l : Fin 3 => iprop(lent d false l 0 (tgt d (src d c)) ∗ lent d true l 0 (tgt d (src d c)))) = _
    rw [tgt_src]; rfl]
  exact (both_mono (chRaw_lend c) d).trans (both_sep _ _ d).1

omit [FloatOps F] in
theorem pre_of (d : Bool) (c : Dev nD) : iprop(both (chKept c) d ∗ readyPay d 0 c) ⊢ (both (fun d l w => chPre d w l c) d : sProp 𝕄) := by
  rw [readyPay_zero]
  refine (both_sep (chKept c) (fun d l w => lent d w l 0 (tgt d c)) d).2.trans (both_mono (fun d l w => ?_) d)
  unfold chKept chPre
  iintro ⟨⟨H1, H2⟩, H3⟩
  isplitl [H1]; · iexact H1
  isplitl [H2]; · iexact H2
  iexact H3

omit [FloatOps F] in
theorem pre_all (c : Dev nD) :
    (allCh (fun d l w => chPre d w l c) : sProp 𝕄) ⊢ iprop(Pre 0 c ∗ Pre 1 c ∗ Pre 2 c) := by
  unfold allCh both Pre
  rw [bigSep_fin3, bigSep_fin3]
  iintro ⟨⟨H1, H2, H3⟩, K1, K2, K3⟩
  isplitl [H1 K1]; · isplitl [H1] <;> iassumption
  isplitl [H2 K2]; · isplitl [H2] <;> iassumption
  isplitl [H3] <;> iassumption

/-- The first handshake. -/
theorem wp_enter (c : Dev nD) {α : Type} (kk : PUnit → Prog _ α) (Q : α → sProp 𝕄) :
    iprop(ctx W ∗ allCh (chRaw c) ∗ shTok 0 1 c ∗ posAt (rcell c) 0 ∗ ow c (O₀ c) ∗ toks c 0)
      ⊢ iprop(((Pre 0 c ∗ Pre 1 c ∗ Pre 2 c ∗ Run 0 c) -∗ WP c (kk ⟨⟩) Q) -∗ WP c (shake c >>= kk) Q) := by
  unfold shTok Run
  iintro ⟨#Hctx, Hraw, ⟨Ht, Ht', Hc⟩, Hp, HO, Htk⟩ Hk
  unfold allCh
  icases Hraw with ⟨Hf, Hb⟩
  ihave Hf := (raw_lend false c) $$ Hf
  ihave Hb := (raw_lend true c) $$ Hb
  icases Hf with ⟨Kf, Lf⟩
  icases Hb with ⟨Kb, Lb⟩
  ihave #Hr := (ctx_reached W (prv c, none)) $$ Hctx
  ihave #Hr' := (ctx_reached W (nxt c, none)) $$ Hctx
  iapply (wp_shake W c 0 (by omega) (owe c 0) 1 (by omega) rfl (above_owe c 0 (by omega))) $$ [Ht Ht' Hc Hp HO Lf Lb]
  · isplitr; · iexact Hctx
    isplitl [HO]; · iexact HO
    isplitl [Ht]; · iexact Ht
    isplitr; · iexact Hr
    isplitl [Lf]; · iexact Lf
    isplitl [Ht']; · iexact Ht'
    isplitr; · iexact Hr'
    isplitl [Lb]; · iexact Lb
    isplitl [Hc]; · iexact Hc
    iexact Hp
  iintro ⟨HO, Hp, Pf, Pb⟩
  ihave Pf := (pre_of false c) $$ [Kf Pf]
  · isplitl [Kf] <;> iassumption
  ihave Pb := (pre_of true c) $$ [Kb Pb]
  · isplitl [Kb] <;> iassumption
  ihave P := (pre_all c) $$ [Pf Pb]
  · unfold allCh; isplitl [Pf] <;> iassumption
  icases P with ⟨P0, P1, P2⟩
  iapply Hk
  isplitl [P0]; · iexact P0
  isplitl [P1]; · iexact P1
  isplitl [P2]; · iexact P2
  isplitl [Hp]; · iexact Hp
  isplitl [HO]; · iexact HO
  iexact Htk

/-! ## The end -/

omit [FloatOps F] in
theorem dmaHop_mono (x : Bool) (s : Fin 2) {R r : ℕ} (h : R ≤ r) : dmaHop x s R ≤ dmaHop x s r := by
  unfold dmaHop; split <;> omega

omit [FloatOps F] in
/-- A transfer semaphore that no hop raises any more reads zero. -/
theorem close_dma (d w x : Bool) (l : Fin 3) (s : Fin 2) (c : Dev nD) (R : ℕ) (h : nh d ≤ dmaHop x s R) :
    iprop(ctx W ∗ posAt (dcell d w x l s c) R) ⊢ iprop(|={Set.univ}=> semVal (dcell d w x l s c) 0) := by
  unfold posAt
  iintro ⟨#Hctx, Hp, -⟩
  ihave #Hi := (ctx_inv W (c, some (d, w, x, l, s))) $$ Hctx
  icases Hi with ⟨%κ, #Hi⟩
  iapply (Rounds.cell_close ER (Rd W) (Set.mem_univ κ) (fun h => h) (R := R) (fun r hr => by
    rw [duties_dma, if_neg (by have := dmaHop_mono x s hr; omega)]))
  isplitr; · iexact Hi
  iexact Hp

omit [FloatOps F] in
theorem close_ready (c : Dev nD) : iprop(ctx W ∗ posAt (rcell c) 46) ⊢ iprop(|={Set.univ}=> semVal (rcell c) 0) := by
  unfold posAt
  iintro ⟨#Hctx, Hp, -⟩
  ihave #Hi := (ctx_inv W (c, none)) $$ Hctx
  icases Hi with ⟨%κ, #Hi⟩
  iapply (Rounds.cell_close ER (Rd W) (Set.mem_univ κ) (fun h => h) (R := 46) (fun r hr => duties_ready_later W c r hr))
  isplitr; · iexact Hi
  iexact Hp

/-- A transfer semaphore at rest. -/
def rest (c : Dev nD) : Ch → sProp 𝕄 := fun (d, w, x, l, s) => semVal (dcell d w x l s c) 0

theorem chSt_close (d w : Bool) (l : Fin 3) (c : Dev nD) :
    iprop(ctx W ∗ chSt W d w l (nh d) c) ⊢ iprop(|={Set.univ}=> (pair c d l w ∗ grp (rest c) d l w)) := by
  unfold chSt other posn pair grp rest
  rw [if_neg (lt_irrefl _)]
  cases d
  · iintro ⟨#Hctx, Hs, ⟨P1, P2, P3, P4⟩, Ho⟩
    ihave P1 := (close_dma W false w false l 0 c 8 (by decide)) $$ [P1]
    · isplitr; · iexact Hctx
      iexact P1
    ihave P2 := (close_dma W false w false l 1 c 8 (by decide)) $$ [P2]
    · isplitr; · iexact Hctx
      iexact P2
    ihave P3 := (close_dma W false w true l 1 c 8 (by decide)) $$ [P3]
    · isplitr; · iexact Hctx
      iexact P3
    ihave P4 := (close_dma W false w true l 0 c 8 (by decide)) $$ [P4]
    · isplitr; · iexact Hctx
      iexact P4
    imod P1 with P1
    imod P2 with P2
    imod P3 with P3
    imod P4 with P4
    imodintro
    isplitl [Hs Ho]
    · isplitl [Hs]; · iapply (slotAt_any false w l 0 c _); iexact Hs
      iexact Ho
    isplitl [P1]; · iexact P1
    isplitl [P2]; · iexact P2
    isplitl [P3]; · iexact P3
    iexact P4
  · iintro ⟨#Hctx, Hs, ⟨P1, P2, P3, P4⟩, Ho⟩
    ihave P1 := (close_dma W true w false l 1 c 7 (by decide)) $$ [P1]
    · isplitr; · iexact Hctx
      iexact P1
    ihave P2 := (close_dma W true w false l 0 c 8 (by decide)) $$ [P2]
    · isplitr; · iexact Hctx
      iexact P2
    ihave P3 := (close_dma W true w true l 0 c 7 (by decide)) $$ [P3]
    · isplitr; · iexact Hctx
      iexact P3
    ihave P4 := (close_dma W true w true l 1 c 8 (by decide)) $$ [P4]
    · isplitr; · iexact Hctx
      iexact P4
    imod P1 with P1
    imod P2 with P2
    imod P3 with P3
    imod P4 with P4
    imodintro
    isplitl [Hs Ho]
    · isplitl [Ho]; · iexact Ho
      iapply (slotAt_any true w l 1 c _); iexact Hs
    isplitl [P2]; · iexact P2
    isplitl [P1]; · iexact P1
    isplitl [P4]; · iexact P4
    iexact P3

/-- One layer's blocks and semaphores at rest. -/
def Rest (l : Fin 3) (c : Dev nD) (d : Bool) : sProp 𝕄 :=
  iprop((pair c d l false ∗ grp (rest c) d l false) ∗ pair c d l true ∗ grp (rest c) d l true)

theorem Done_close (l : Fin 3) (c : Dev nD) :
    iprop(ctx W ∗ Done W l c) ⊢ iprop(|={Set.univ}=> (Rest l c false ∗ Rest l c true)) := by
  unfold Done dirSt Rest
  iintro ⟨#Hctx, ⟨H1, H2⟩, H3, H4⟩
  ihave H1 := (chSt_close W false false l c) $$ [H1]
  · isplitr; · iexact Hctx
    iexact H1
  ihave H2 := (chSt_close W false true l c) $$ [H2]
  · isplitr; · iexact Hctx
    iexact H2
  ihave H3 := (chSt_close W true false l c) $$ [H3]
  · isplitr; · iexact Hctx
    iexact H3
  ihave H4 := (chSt_close W true true l c) $$ [H4]
  · isplitr; · iexact Hctx
    iexact H4
  imod H1 with H1
  imod H2 with H2
  imod H3 with H3
  imod H4 with H4
  imodintro
  isplitl [H1 H2]
  · isplitl [H1] <;> iassumption
  isplitl [H3] <;> iassumption

omit [FloatOps F] in
theorem Rest_all (c : Dev nD) :
    iprop((Rest 0 c false ∗ Rest 0 c true) ∗ (Rest 1 c false ∗ Rest 1 c true) ∗ Rest 2 c false ∗ Rest 2 c true)
      ⊢ iprop(allCh (pair c) ∗ bigSep Finset.univ (rest (F := F) c)) := by
  rw [bigSep_ch]
  refine .trans ?_ (allCh_sep (pair c) (grp (rest c)))
  unfold allCh both Rest
  rw [bigSep_fin3, bigSep_fin3]
  iintro ⟨⟨A1, B1⟩, ⟨A2, B2⟩, A3, B3⟩
  isplitl [A1 A2 A3]
  · isplitl [A1]; · iexact A1
    isplitl [A2]; · iexact A2
    iexact A3
  isplitl [B1]; · iexact B1
  isplitl [B2]; · iexact B2
  iexact B3

/-- All three layers done: the cells close and the scratch is whole again. -/
theorem close_all (c : Dev nD) :
    iprop(ctx W ∗ Done W 0 c ∗ Done W 1 c ∗ Done W 2 c ∗ posAt (rcell c) 46)
      ⊢ iprop(|={Set.univ}=> (((scr false false c ∗ scr false true c) ∗ scr true false c ∗ scr true true c)
          ∗ bigSep Finset.univ (rest (F := F) c) ∗ semVal (rcell c) 0)) := by
  iintro ⟨#Hctx, H0, H1, H2, Hp⟩
  ihave H0 := (Done_close W 0 c) $$ [H0]
  · isplitr; · iexact Hctx
    iexact H0
  ihave H1 := (Done_close W 1 c) $$ [H1]
  · isplitr; · iexact Hctx
    iexact H1
  ihave H2 := (Done_close W 2 c) $$ [H2]
  · isplitr; · iexact Hctx
    iexact H2
  ihave Hp := (close_ready W c) $$ [Hp]
  · isplitr; · iexact Hctx
    iexact Hp
  imod H0 with H0
  imod H1 with H1
  imod H2 with H2
  imod Hp with Hp
  imodintro
  ihave H := (Rest_all c) $$ [H0 H1 H2]
  · isplitl [H0]; · iexact H0
    isplitl [H1]; · iexact H1
    iexact H2
  icases H with ⟨Hs, Hr⟩
  isplitl [Hs]; · iapply (scrs_join c); iexact Hs
  isplitl [Hr]; · iexact Hr
  iexact Hp

end Cert.Proof.KernelIdeal

end
-- ==== Proof.KernelIdeal.TextEq.lean ====
/- The printed body is the composition of the fragments. -/
module

public import proofs.«01_k».proof.Proof.KernelIdeal.Text

@[expose] public section

noncomputable section

namespace Cert.Proof.KernelIdeal

open Cert.KernelIdeal Cert.KernelIdeal.Gen
open Idealize.ShloMosaic Idealize.ShloMosaic.TcCoe
open Idealize.SL.Sem

variable {F : FTy → Type} [FloatOps F]

variable (a0 : Memref sig .tc .vmem S512x256 .f32) (h0 : a0.IsWhole) (a1 : Memref sig .tc .vmem S256x512 .f32) (h1 : a1.IsWhole)
    (a2 : Memref sig .tc .vmem S512x256 .f32) (h2 : a2.IsWhole) (a3 : Memref sig .tc .vmem S256x512 .f32) (h3 : a3.IsWhole)
    (a4 : Memref sig .tc .vmem S512x256 .f32) (h4 : a4.IsWhole) (a5 : Memref sig .tc .vmem S256x512 .f32) (h5 : a5.IsWhole)
    (a6 : Memref sig .tc .vmem S512x256 .f32) (h6 : a6.IsWhole) (a7 : Memref sig .tc .vmem S512x256 .f32) (h7 : a7.IsWhole)

/-- Layer 0's loop, in its part. -/
theorem part40_eq (d0 : Dev nD) (v4 v6 : BitVec 32) (x : FVec F S512x256 .bf16) (acc : FVec F S512x256 .f32) :
    k0_part40 a0 h0 a1 h1 a2 h2 a3 h3 a4 h4 a5 h5 a6 h6 a7 h7 (Memref.whole cc0_scratch0) (Memref.isWhole_whole _)
      (Memref.whole cc0_scratch1) (Memref.isWhole_whole _) (Memref.whole cc0_scratch2) (Memref.isWhole_whole _)
      (Memref.whole cc0_scratch3) (Memref.isWhole_whole _)
      cc0_scratch4 cc0_scratch5 cc0_scratch6 cc0_scratch7 cc0_scratch8 cc0_scratch9 cc0_scratch10 cc0_scratch11
      d0 v4 v6 (SemArray.scalar (sig.barrier 0 rfl)) x acc = (do
  Prog.lift (.waitDma2 (sm true true true 0 1) (slot true true 0 0) (slot true true 0 1) (slot_words true true 0 0) (slot_words true true 0 1))
  shake d0
  let v ← Scf.Loop.for lp k0_t1_ok acc (fun _ acc => hopPair 0 d0 x acc)
  send false false 0 1 0 d0
  pure v) := rfl

/-- Layer 1's loop, in its part. -/
theorem part49_eq (d0 : Dev nD) (v4 v6 : BitVec 32) (x : FVec F S512x256 .bf16) (acc : FVec F S512x256 .f32) :
    k0_part49 a0 h0 a1 h1 a2 h2 a3 h3 a4 h4 a5 h5 a6 h6 a7 h7 (Memref.whole cc0_scratch0) (Memref.isWhole_whole _)
      (Memref.whole cc0_scratch1) (Memref.isWhole_whole _) (Memref.whole cc0_scratch2) (Memref.isWhole_whole _)
      (Memref.whole cc0_scratch3) (Memref.isWhole_whole _)
      cc0_scratch4 cc0_scratch5 cc0_scratch6 cc0_scratch7 cc0_scratch8 cc0_scratch9 cc0_scratch10 cc0_scratch11
      d0 v4 v6 (SemArray.scalar (sig.barrier 0 rfl)) x acc = (do
  Prog.lift (.waitDma2 (sm true true true 1 1) (slot true true 1 0) (slot true true 1 1) (slot_words true true 1 0) (slot_words true true 1 1))
  shake d0
  Scf.Loop.for lp k0_t1_ok acc (fun _ acc => hopPair 1 d0 x acc) >>= fun v => pure v) := rfl

/-- Layer 2's loop, in its part. -/
theorem part58_eq (d0 : Dev nD) (v4 v6 : BitVec 32) (x : FVec F S512x256 .bf16) (acc : FVec F S512x256 .f32) :
    k0_part58 a0 h0 a1 h1 a2 h2 a3 h3 a4 h4 a5 h5 a6 h6 a7 h7 (Memref.whole cc0_scratch0) (Memref.isWhole_whole _)
      (Memref.whole cc0_scratch1) (Memref.isWhole_whole _) (Memref.whole cc0_scratch2) (Memref.isWhole_whole _)
      (Memref.whole cc0_scratch3) (Memref.isWhole_whole _)
      cc0_scratch4 cc0_scratch5 cc0_scratch6 cc0_scratch7 cc0_scratch8 cc0_scratch9 cc0_scratch10 cc0_scratch11
      d0 v4 v6 (SemArray.scalar (sig.barrier 0 rfl)) x acc = (do
  await true true 2 0 1
  shake d0
  Scf.Loop.for lp k0_t1_ok acc (fun _ acc => hopPair 2 d0 x acc) >>= fun v => pure v) := rfl

/-- The first part: the device's number is read, the neighbours met, the first blocks loaded and one of them staged. -/
theorem part34_eq : k0_part34 (F := F) a0 h0 a1 h1 a2 h2 a3 h3 a4 h4 a5 h5 a6 h6 a7 h7 (Memref.whole cc0_scratch0) (Memref.isWhole_whole _)
      (Memref.whole cc0_scratch1) (Memref.isWhole_whole _) (Memref.whole cc0_scratch2) (Memref.isWhole_whole _)
      (Memref.whole cc0_scratch3) (Memref.isWhole_whole _)
      cc0_scratch4 cc0_scratch5 cc0_scratch6 cc0_scratch7 cc0_scratch8 cc0_scratch9 cc0_scratch10 cc0_scratch11  =
    (Prog.lift .deviceId >>= fun c : Dev nD => shake c >>= fun _ => inO a0 >>= fun x => inI a1 >>= fun wi => inO a2 >>= fun wo =>
      stageI false 0 wi >>= fun _ => readO (F := F) false 0 0 >>= fun _ =>
      Prog.ret ⟨c, Scalar.remsi (Scalar.addi (Scalar.remsi (Scalar.divsi (Dev.word c) 1#32) 32#32) 31#32) 32#32,
        Scalar.remsi (Scalar.addi (Scalar.remsi (Scalar.divsi (Dev.word c) 1#32) 32#32) 1#32) 32#32,
        SemArray.scalar (sig.barrier 0 rfl), x, wi, wo, shapeCast S1x1x512x256 wo shapeCasts_S512x256_S1x1x512x256⟩) := rfl

/-- The printed body, at the kernel's own scratch, is the composition. -/
theorem body_eq :
    cc0_body (F := F) a0 h0 a1 h1 a2 h2 a3 h3 a4 h4 a5 h5 a6 h6 a7 h7 (Memref.whole cc0_scratch0) (Memref.isWhole_whole _)
      (Memref.whole cc0_scratch1) (Memref.isWhole_whole _) (Memref.whole cc0_scratch2) (Memref.isWhole_whole _)
      (Memref.whole cc0_scratch3) (Memref.isWhole_whole _)
      cc0_scratch4 cc0_scratch5 cc0_scratch6 cc0_scratch7 cc0_scratch8 cc0_scratch9 cc0_scratch10 cc0_scratch11
      = body a0 a1 a2 a3 a4 a5 a6 a7 h7 := by
  unfold cc0_body
  simp only [part34_eq, Prog.bind_assoc, Prog.bind_ret]
  simp only [part40_eq, part49_eq, part58_eq, body, layer, Prog.bind_assoc]
  rfl

end Cert.Proof.KernelIdeal

end
-- ==== Proof.KernelIdeal.Body.lean ====
/-
The whole body: what it starts from, what it leaves, and its run.
-/
module

public import proofs.«01_k».proof.Proof.KernelIdeal.Ends
public import proofs.«01_k».proof.Proof.KernelIdeal.TextEq

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section Body

variable (W : (w : Bool) → Fin 3 → Dev nD → Blk F w)

/-- What a device knows and owns of the protocol when its body starts. -/
def start (c : Dev nD) : sProp 𝕄 :=
  iprop(ctx W ∗ (bigSep Finset.univ fun k : Option Ch => posAt (kcell (c, k)) 0) ∗ shTok 0 1 c ∗ toks c 0)

/-- The four scratch buffers, whole. -/
def scrs (c : Dev nD) : sProp 𝕄 := iprop((scr false false c ∗ scr false true c) ∗ scr true false c ∗ scr true true c)

def Φ₀ (c : Dev nD) : sProp 𝕄 := iprop(start W c ∗ scrs c)
def Φ₁ (c : Dev nD) : sProp 𝕄 := iprop(scrs c ∗ bigSep Finset.univ (rest (F := F) c) ∗ semVal (rcell c) 0)

/-- The three layers' results on device `c`, from its activation block. -/
def out1 (X : FVec F S512x256 .f32) (c : Dev nD) : FVec F S512x256 .f32 := layerOut W 0 (nO X) c
def out2 (X : FVec F S512x256 .f32) (c : Dev nD) : FVec F S512x256 .f32 := layerOut W 1 (truncf .bf16 (out1 W X c) bitsLt_bf16_f32) c
def out3 (X : FVec F S512x256 .f32) (c : Dev nD) : FVec F S512x256 .f32 := layerOut W 2 (truncf .bf16 (out2 W X c) bitsLt_bf16_f32) c

omit [FloatOps F] in
theorem bigSep_option (Φ : Option Ch → sProp 𝕄) : bigSep Finset.univ Φ = iprop(Φ none ∗ bigSep Finset.univ fun q : Ch => Φ (some q)) := by
  rw [bigSep_univ_equiv (Equiv.optionEquivSumPUnit.{0, 0} Ch).symm Φ, bigSep_univ_sum, bigSep_univ_of_subsingleton PUnit.unit]
  show iprop((bigSep Finset.univ fun q : Ch => Φ (some q)) ∗ Φ none) = iprop(Φ none ∗ bigSep Finset.univ fun q : Ch => Φ (some q))
  exact Idealize.SL.BI.sep_comm.antisymm Idealize.SL.BI.sep_comm

theorem wp_devId (c : Dev nD) {α : Type} (kk : Dev nD → Prog _ α) (Q : α → sProp 𝕄) : WP c (kk c) Q ⊢ WP c (.op .deviceId kk) Q := by
  unfold WP; rw [wp_deviceId]

omit [FloatOps F] in
theorem pos_raw (c : Dev nD) :
    (bigSep Finset.univ fun k : Option Ch => posAt (kcell (c, k)) 0 : sProp 𝕄)
      = iprop(posAt (rcell c) 0 ∗ allCh fun d l w => posn d w l 0 c) := by
  rw [bigSep_option, bigSep_ch]; rfl

/-- The run of the body. -/
theorem wp_body (c : Dev nD) (a0 : Memref sig .tc .vmem S512x256 .f32) (a1 : Memref sig .tc .vmem S256x512 .f32) (a2 : Memref sig .tc .vmem S512x256 .f32) (a3 : Memref sig .tc .vmem S256x512 .f32) (a4 : Memref sig .tc .vmem S512x256 .f32) (a5 : Memref sig .tc .vmem S256x512 .f32) (a6 : Memref sig .tc .vmem S512x256 .f32) (a7 : Memref sig .tc .vmem S512x256 .f32)
    (h7 : a7.IsWhole) (X0 : FVec F S512x256 .f32) (X1 : FVec F S256x512 .f32) (X2 : FVec F S512x256 .f32) (X3 : FVec F S256x512 .f32) (X4 : FVec F S512x256 .f32) (X5 : FVec F S256x512 .f32) (X6 : FVec F S512x256 .f32) (X7 : FVec F S512x256 .f32)
    (e1 : W false 0 c = nI X1) (e2 : W true 0 c = nO X2) (e3 : W false 1 c = nI X3) (e4 : W true 1 c = nO X4) (e5 : W false 2 c = nI X5)
    (e6 : W true 2 c = nO X6) (Q : PUnit → sProp 𝕄) :
    iprop(Φ₀ W c ∗ ow c (O₀ c) ∗ opnd c a0 X0 ∗ opnd c a1 X1 ∗ opnd c a2 X2 ∗ opnd c a3 X3 ∗ opnd c a4 X4 ∗ opnd c a5 X5 ∗ opnd c a6 X6 ∗ opnd c a7 X7)
      ⊢ iprop(((Φ₁ c ∗ ow c 0 ∗ opnd c a0 X0 ∗ opnd c a1 X1 ∗ opnd c a2 X2 ∗ opnd c a3 X3 ∗ opnd c a4 X4 ∗ opnd c a5 X5 ∗ opnd c a6 X6
          ∗ opnd c a7 (out3 W X0 c)) -∗ Q ⟨⟩) -∗ WP c (body a0 a1 a2 a3 a4 a5 a6 a7 h7) Q) := by
  unfold body Φ₀ Φ₁ start
  simp only [Prog.lift, Prog.bind_op, Prog.bind_ret, Prog.pure_eq_ret]
  rw [pos_raw]
  iintro ⟨⟨⟨#Hctx, ⟨Hp, Hpos⟩, Hsh, Htk⟩, Hscr⟩, HO, A0, A1, A2, A3, A4, A5, A6, A7⟩ Hk
  iapply (wp_devId c)
  ihave Hs := (scrs_split c) $$ [Hscr]
  · unfold scrs; iexact Hscr
  ihave Hraw := (allCh_join (pair c) (fun d l w => posn d w l 0 c)) $$ [Hs Hpos]
  · isplitl [Hs] <;> iassumption
  iapply (wp_enter W c) $$ [Hraw Hsh Hp HO Htk]
  · isplitr; · iexact Hctx
    isplitl [Hraw]; · iexact Hraw
    isplitl [Hsh]; · iexact Hsh
    isplitl [Hp]; · iexact Hp
    isplitl [HO] <;> iassumption
  iintro ⟨P0, P1, P2, HR⟩
  iapply (wp_inO c a0 X0) $$ A0
  iintro A0
  iapply (wp_layer W 0 c a1 a2 X1 X2 e1 e2) $$ [A1 A2 P0 HR]
  · isplitr; · iexact Hctx
    isplitl [A1]; · iexact A1
    isplitl [A2]; · iexact A2
    isplitl [P0]; · iexact P0
    iexact HR
  iintro ⟨A1, A2, D0, HR⟩
  iapply (wp_layer W 1 c a3 a4 X3 X4 e3 e4) $$ [A3 A4 P1 HR]
  · isplitr; · iexact Hctx
    isplitl [A3]; · iexact A3
    isplitl [A4]; · iexact A4
    isplitl [P1]; · iexact P1
    iexact HR
  iintro ⟨A3, A4, D1, HR⟩
  iapply (wp_layer W 2 c a5 a6 X5 X6 e5 e6) $$ [A5 A6 P2 HR]
  · isplitr; · iexact Hctx
    isplitl [A5]; · iexact A5
    isplitl [A6]; · iexact A6
    isplitl [P2]; · iexact P2
    iexact HR
  iintro ⟨A5, A6, D2, HR⟩
  rw [← Prog.bind_pure (putOut a7 h7 _)]
  iapply (wp_putOut c a7 h7 X7) $$ A7
  iintro A7
  unfold Run
  icases HR with ⟨Hp, HO, -⟩
  ihave H := (close_all W c) $$ [D0 D1 D2 Hp]
  · isplitr; · iexact Hctx
    isplitl [D0]; · iexact D0
    isplitl [D1]; · iexact D1
    isplitl [D2]; · iexact D2
    iexact Hp
  simp only [Prog.pure_eq_ret]
  unfold WP
  rw [wp_ret]
  imod H with ⟨Hs, Hr, Hz⟩
  imodintro
  iapply Hk
  isplitl [Hs Hr Hz]
  · isplitl [Hs]; · unfold scrs; iexact Hs
    isplitl [Hr] <;> iassumption
  isplitl [HO]; · iexact HO
  isplitl [A0]; · iexact A0
  isplitl [A1]; · iexact A1
  isplitl [A2]; · iexact A2
  isplitl [A3]; · iexact A3
  isplitl [A4]; · iexact A4
  isplitl [A5]; · iexact A5
  isplitl [A6]; · iexact A6
  iexact A7

end Body

/-! ## The data of the launch -/

variable (m : (ℓ : Loc nD τ sig) → Buf (Elt F) ℓ) (ρ : Dev nD → PrngReg)

/-- The start: any memory, all counters zero. -/
def s₀ : MemSt nD τ sig (Elt F) := ⟨m, fun _ => 0, ρ⟩

/-- The operands as staged. -/
def X0 (c : Dev nD) : FVec F S512x256 .f32 := (win0_0.blk (0 : Fin 1)).view.read (Elt F) ((s₀ m ρ).mem ((c : Thread nD τ).loc main_arg0))
def X1 (c : Dev nD) : FVec F S256x512 .f32 := (win0_1.blk (0 : Fin 1)).view.read (Elt F) ((s₀ m ρ).mem ((c : Thread nD τ).loc main_arg1))
def X2 (c : Dev nD) : FVec F S512x256 .f32 := (win0_2.blk (0 : Fin 1)).view.read (Elt F) ((s₀ m ρ).mem ((c : Thread nD τ).loc main_arg2))
def X3 (c : Dev nD) : FVec F S256x512 .f32 := (win0_3.blk (0 : Fin 1)).view.read (Elt F) ((s₀ m ρ).mem ((c : Thread nD τ).loc main_arg3))
def X4 (c : Dev nD) : FVec F S512x256 .f32 := (win0_4.blk (0 : Fin 1)).view.read (Elt F) ((s₀ m ρ).mem ((c : Thread nD τ).loc main_arg4))
def X5 (c : Dev nD) : FVec F S256x512 .f32 := (win0_5.blk (0 : Fin 1)).view.read (Elt F) ((s₀ m ρ).mem ((c : Thread nD τ).loc main_arg5))
def X6 (c : Dev nD) : FVec F S512x256 .f32 := (win0_6.blk (0 : Fin 1)).view.read (Elt F) ((s₀ m ρ).mem ((c : Thread nD τ).loc main_arg6))

/-- The weights' blocks, by layer. -/
def Wt : (w : Bool) → Fin 3 → Dev nD → Blk F w
  | false, l, c => nI (match l with | 0 => X1 m ρ c | 1 => X3 m ρ c | 2 => X5 m ρ c)
  | true, l, c => nO (match l with | 0 => X2 m ρ c | 1 => X4 m ρ c | 2 => X6 m ρ c)

/-- The result. -/
def outAt (c : Dev nD) : FVec F S512x256 .f32 := out3 (Wt m ρ) (X0 m ρ c) c

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => X0 m ρ c
    | ⟨1, _⟩ => X1 m ρ c
    | ⟨2, _⟩ => X2 m ρ c
    | ⟨3, _⟩ => X3 m ρ c
    | ⟨4, _⟩ => X4 m ρ c
    | ⟨5, _⟩ => X5 m ρ c
    | ⟨6, _⟩ => X6 m ρ c
    | ⟨7, _⟩ => outAt m ρ c
    | ⟨_ + 8, h⟩ => absurd h (Nat.not_lt.2 (Nat.le_add_left _ _))
  Φ t := match t with
    | ⟨0, _⟩ => Φ₀ (Wt m ρ) c
    | ⟨_ + 1, _⟩ => Φ₁ c
  q _ := fullShare
  owed t := match t with
    | ⟨0, _⟩ => O₀ c
    | ⟨_ + 1, _⟩ => 0

/-! ## The body's obligation -/

theorem before_eq (c : Dev nD) (w : Fin 8) (hw : w.val < 7) (d) : (dats (F := F) m ρ 0 c).before w t0_0 d = (dats (F := F) m ρ 0 c).fetched w t0_0 d := by
  unfold Dat.before
  rw [if_pos]
  clear d
  revert w; decide

set_option maxRecDepth 4000 in
def bodyPre' (c : Dev nD) : sProp 𝕄 :=
  iprop(Φ₀ (Wt m ρ) c ∗ (dats m ρ 0 c).owesAt (0 : ℕ) t0_0.castSucc
    ∗ (∃ d, opnd c (Memref.whole cc0_stg0_0) ((dats m ρ 0 c).before (0 : Fin 8) t0_0 d))
    ∗ (∃ d, opnd c (Memref.whole cc0_stg1_0) ((dats m ρ 0 c).before (1 : Fin 8) t0_0 d))
    ∗ (∃ d, opnd c (Memref.whole cc0_stg2_0) ((dats m ρ 0 c).before (2 : Fin 8) t0_0 d))
    ∗ (∃ d, opnd c (Memref.whole cc0_stg3_0) ((dats m ρ 0 c).before (3 : Fin 8) t0_0 d))
    ∗ (∃ d, opnd c (Memref.whole cc0_stg4_0) ((dats m ρ 0 c).before (4 : Fin 8) t0_0 d))
    ∗ (∃ d, opnd c (Memref.whole cc0_stg5_0) ((dats m ρ 0 c).before (5 : Fin 8) t0_0 d))
    ∗ (∃ d, opnd c (Memref.whole cc0_stg6_0) ((dats m ρ 0 c).before (6 : Fin 8) t0_0 d))
    ∗ (∃ d, opnd c (Memref.whole cc0_stg7_0) ((dats m ρ 0 c).before (7 : Fin 8) t0_0 d)))
def bodyPost (c : Dev nD) : sProp 𝕄 :=
  iprop(Φ₁ c ∗ (dats m ρ 0 c).owesAt (0 : ℕ) t0_0.succ
    ∗ opnd c (Memref.whole cc0_stg0_0) (X0 m ρ c)
    ∗ opnd c (Memref.whole cc0_stg1_0) (X1 m ρ c)
    ∗ opnd c (Memref.whole cc0_stg2_0) (X2 m ρ c)
    ∗ opnd c (Memref.whole cc0_stg3_0) (X3 m ρ c)
    ∗ opnd c (Memref.whole cc0_stg4_0) (X4 m ρ c)
    ∗ opnd c (Memref.whole cc0_stg5_0) (X5 m ρ c)
    ∗ opnd c (Memref.whole cc0_stg6_0) (X6 m ρ c)
    ∗ opnd c (Memref.whole cc0_stg7_0) (outAt m ρ c))

theorem sound_body (c : Dev nD) :
    bodyPre' m ρ c ⊢ WP c (body (Memref.whole cc0_stg0_0) (Memref.whole cc0_stg1_0) (Memref.whole cc0_stg2_0) (Memref.whole cc0_stg3_0)
      (Memref.whole cc0_stg4_0) (Memref.whole cc0_stg5_0) (Memref.whole cc0_stg6_0) (Memref.whole cc0_stg7_0) (Memref.isWhole_whole _)) (fun _ => bodyPost m ρ c) := by
  unfold bodyPre' bodyPost Dat.owesAt Pipeline.owesWithin
  iintro ⟨HΦ, ⟨%T, %hT, HO⟩, ⟨%d0, A0⟩, ⟨%d1, A1⟩, ⟨%d2, A2⟩, ⟨%d3, A3⟩, ⟨%d4, A4⟩, ⟨%d5, A5⟩, ⟨%d6, A6⟩, ⟨%d7, A7⟩⟩
  rw [before_eq m ρ c 0 (by decide)]
  rw [before_eq m ρ c 1 (by decide)]
  rw [before_eq m ρ c 2 (by decide)]
  rw [before_eq m ρ c 3 (by decide)]
  rw [before_eq m ρ c 4 (by decide)]
  rw [before_eq m ρ c 5 (by decide)]
  rw [before_eq m ρ c 6 (by decide)]
  rw [show (dats m ρ 0 c).owed t0_0.castSucc = O₀ c from rfl, show (dats m ρ 0 c).owed t0_0.succ = 0 from rfl]
  iapply (wp_body (Wt m ρ) c (Memref.whole cc0_stg0_0) (Memref.whole cc0_stg1_0) (Memref.whole cc0_stg2_0) (Memref.whole cc0_stg3_0)
      (Memref.whole cc0_stg4_0) (Memref.whole cc0_stg5_0) (Memref.whole cc0_stg6_0) (Memref.whole cc0_stg7_0) (Memref.isWhole_whole _)
      (X0 m ρ c) (X1 m ρ c) (X2 m ρ c) (X3 m ρ c) (X4 m ρ c) (X5 m ρ c) (X6 m ρ c) _ rfl rfl rfl rfl rfl rfl) $$ [HΦ HO A0 A1 A2 A3 A4 A5 A6 A7]
  · isplitl [HΦ]; · iexact HΦ
    isplitl [HO]; · unfold ow; iexists T; iexact HO
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  unfold ow
  iintro ⟨HΦ, ⟨%T', HO⟩, A0, A1, A2, A3, A4, A5, A6, A7⟩
  isplitl [HΦ]; · iexact HΦ
  isplitl [HO]
  · iexists T'
    isplitr; · ipureintro; exact fun _ _ => Or.inl trivial
    iexact HO
  isplitl [A0]; · iexact A0
  isplitl [A1]; · iexact A1
  isplitl [A2]; · iexact A2
  isplitl [A3]; · iexact A3
  isplitl [A4]; · iexact A4
  isplitl [A5]; · iexact A5
  isplitl [A6]; · iexact A6
  iexact A7

set_option maxRecDepth 4000 in
/-- The library's body obligation on device `c`. -/
theorem body_obligation (c : Dev nD) : BodyObligation (dats (F := F) m ρ 0 c) (defs₀ (F := F)) 𝒱₀ (0 : ℕ) Set.univ := fun t => by
  rw [fin_N0 t]
  rw [bigSep_W0, bigSep_W0]
  have h := sound_body m ρ c
  rw [← body_eq (h0 := Memref.isWhole_whole _) (h1 := Memref.isWhole_whole _) (h2 := Memref.isWhole_whole _) (h3 := Memref.isWhole_whole _)
    (h4 := Memref.isWhole_whole _) (h5 := Memref.isWhole_whole _) (h6 := Memref.isWhole_whole _)] at h
  exact h

end Cert.Proof.KernelIdeal

end
-- ==== Proof.KernelIdeal.Tokens.lean ====
/-
The rights of the protocol, as the launch mints them and as the devices spend them.

The launch mints the rights cell by cell; a right is spent by the device that raises the cell, which may be a neighbour. So the
rights go once around the ring. The right to wait comes from what the devices together owe a cell.
-/
module

public import proofs.«01_k».proof.Proof.KernelIdeal.Body

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The duties, minted -/

/-- The round of a device's ready semaphore after the `h`-th hop; no handshake follows a layer's last hop, whose number here is
    past every round in use. -/
def jr (h : ℕ) : ℕ := if h % 16 = 15 then 100 + h else 1 + 15 * (h / 16) + h % 16

abbrev Tok : Type := Dev nD × (Fin 48 × ((Bool × Bool) × Bool ⊕ Bool) ⊕ Bool)

def tokOf : Tok → GSem nD τ sig × ℕ × Bool
  | (c, .inl (h, .inl ((d, w), x))) => (dcell d w x (lay h.val) (par (h.val % 16 + x.toNat)) c, h.val % 16 / 2, false)
  | (c, .inl (h, .inr b)) => (rcell c, jr h.val, b)
  | (c, .inr b) => (rcell c, 0, b)

theorem jr_inj {h h' : ℕ} (hh : h < 48) (hh' : h' < 48) (e : jr h = jr h') : h = h' := by
  unfold jr at e; split at e <;> split at e <;> omega
theorem jr_pos (h : ℕ) : jr h ≠ 0 := by unfold jr; split <;> omega

theorem dr_ne {q : DmaSem sig} {s : Sem sig} : (SemLoc.dma q : SemLoc sig) ≠ .reg s := fun h => by cases h

theorem tokOf_injective : Function.Injective tokOf := by
  rintro ⟨c, ⟨h, ⟨⟨d, w⟩, x⟩ | b⟩ | b⟩ ⟨c', ⟨h', ⟨⟨d', w'⟩, x'⟩ | b'⟩ | b'⟩ e
  · have h1 : c = c' := congrArg (fun g : GSem nD τ sig × ℕ × Bool => g.1.1.1) e
    have h2 : (SemLoc.dma (sm d w x (lay h.val) (par (h.val % 16 + x.toNat))) : SemLoc sig) = .dma (sm d' w' x' (lay h'.val) (par (h'.val % 16 + x'.toNat))) :=
      congrArg (fun g : GSem nD τ sig × ℕ × Bool => g.1.2) e
    have h3 : h.val % 16 / 2 = h'.val % 16 / 2 := congrArg (fun g : GSem nD τ sig × ℕ × Bool => g.2.1) e
    have h4 := sm_inj (SemLoc.dma.inj h2)
    obtain ⟨rfl, rfl, rfl, h5, h6⟩ : d = d' ∧ w = w' ∧ x = x' ∧ lay h.val = lay h'.val ∧ par (h.val % 16 + x.toNat) = par (h'.val % 16 + x'.toNat) := by
      simpa only [Prod.mk.injEq] using h4
    have h5' : h.val / 16 % 3 = h'.val / 16 % 3 := congrArg Fin.val h5
    have h6' : (h.val % 16 + x.toNat) % 2 = (h'.val % 16 + x.toNat) % 2 := congrArg Fin.val h6
    have hx := h.isLt; have hx' := h'.isLt
    have : h = h' := Fin.ext (by omega)
    rw [h1, this]
  · exact absurd (congrArg (fun g : GSem nD τ sig × ℕ × Bool => g.1.2) e) dr_ne
  · exact absurd (congrArg (fun g : GSem nD τ sig × ℕ × Bool => g.1.2) e) dr_ne
  · exact absurd (congrArg (fun g : GSem nD τ sig × ℕ × Bool => g.1.2) e).symm dr_ne
  · have h1 : c = c' := congrArg (fun g : GSem nD τ sig × ℕ × Bool => g.1.1.1) e
    have h2 : jr h.val = jr h'.val := congrArg (fun g : GSem nD τ sig × ℕ × Bool => g.2.1) e
    have h3 : b = b' := congrArg (fun g : GSem nD τ sig × ℕ × Bool => g.2.2) e
    have : h = h' := Fin.ext (jr_inj h.isLt h'.isLt h2)
    rw [h1, this, h3]
  · exact absurd (congrArg (fun g : GSem nD τ sig × ℕ × Bool => g.2.1) e) (jr_pos _)
  · exact absurd (congrArg (fun g : GSem nD τ sig × ℕ × Bool => g.1.2) e).symm dr_ne
  · exact absurd (congrArg (fun g : GSem nD τ sig × ℕ × Bool => g.2.1) e).symm (jr_pos _)
  · have h1 : c = c' := congrArg (fun g : GSem nD τ sig × ℕ × Bool => g.1.1.1) e
    have h3 : b = b' := congrArg (fun g : GSem nD τ sig × ℕ × Bool => g.2.2) e
    rw [h1, h3]

def ringToks : Finset (GSem nD τ sig × ℕ × Bool) := Finset.univ.map ⟨tokOf, tokOf_injective⟩
def ringCells : Finset (GSem nD τ sig) := Finset.univ.map ⟨kcell, kcell_injective⟩

abbrev dut (x : GSem nD τ sig × ℕ × Bool) : sProp 𝕄 := dutyTok ER x.1 x.2.1 x.2.2

/-- The duties of a device's own cells, as minted: one block's of one hop, a handshake's. -/
def mintCh (c : Dev nD) (h : ℕ) (p : Bool × Bool) : sProp 𝕄 :=
  iprop(dutyTok ER (dcell p.1 p.2 false (lay h) (par (h % 16)) c) (h % 16 / 2) false ∗ dutyTok ER (dcell p.1 p.2 true (lay h) (par (h % 16 + 1)) c) (h % 16 / 2) false)
def mintSh (c : Dev nD) (j : ℕ) : sProp 𝕄 := iprop(dutyTok ER (rcell c) j false ∗ dutyTok ER (rcell c) j true)
/-- The duties a device spends. -/
def payCh (c : Dev nD) (h : ℕ) (p : Bool × Bool) : sProp 𝕄 :=
  iprop(dutyTok ER (dcell p.1 p.2 false (lay h) (par (h % 16)) c) (h % 16 / 2) false
    ∗ dutyTok ER (dcell p.1 p.2 true (lay h) (par (h % 16 + 1)) (tgt p.1 c)) (h % 16 / 2) false)
def paySh (c : Dev nD) (j : ℕ) : sProp 𝕄 := iprop(dutyTok ER (rcell (prv c)) j false ∗ dutyTok ER (rcell (nxt c)) j true)

def mint (c : Dev nD) : sProp 𝕄 :=
  iprop((bigSep Finset.univ fun h : Fin 48 => iprop((bigSep Finset.univ fun p => mintCh c h.val p) ∗ mintSh c (jr h.val))) ∗ mintSh c 0)
def pay (c : Dev nD) : sProp 𝕄 :=
  iprop((bigSep Finset.univ fun h : Fin 48 => iprop((bigSep Finset.univ fun p => payCh c h.val p) ∗ paySh c (jr h.val))) ∗ paySh c 0)

omit [FloatOps F] in
theorem ringToks_eq : (bigSep ringToks (fun x => (dutyTok ER x.1 x.2.1 x.2.2 : sProp 𝕄))) = bigSep Finset.univ fun c : Dev nD => mint c := by
  unfold ringToks
  rw [bigSep_map, bigSep_univ_prod]
  refine bigSep_congr fun c _ => ?_
  rw [bigSep_univ_sum, bigSep_bool, bigSep_univ_prod]
  unfold mint
  refine congrArg₂ BI.sep (bigSep_congr fun h _ => ?_) rfl
  rw [bigSep_univ_sum, bigSep_bool, bigSep_univ_prod]
  refine congrArg₂ BI.sep (bigSep_congr fun p _ => ?_) rfl
  rw [bigSep_bool]
  rfl

omit [FloatOps F] in
theorem bigSep_turn {X : Type} [Fintype X] [DecidableEq X] (A : Dev nD → X → sProp 𝕄) :
    (bigSep Finset.univ fun c => bigSep Finset.univ fun x => A c x) = bigSep Finset.univ fun x => bigSep Finset.univ fun c => A c x := by
  rw [← bigSep_univ_prod (fun p : Dev nD × X => A p.1 p.2), ← bigSep_univ_prod (fun p : X × Dev nD => A p.2 p.1),
    bigSep_univ_equiv (Equiv.prodComm X (Dev nD))]
  rfl

omit [FloatOps F] in
/-- A family over devices and something else may be turned for each of the latter. -/
theorem turn {X : Type} [Fintype X] {A B : Dev nD → X → sProp 𝕄}
    (h : ∀ x, (bigSep Finset.univ fun c => A c x) ⊢ bigSep Finset.univ fun c => B c x) :
    (bigSep Finset.univ fun c => bigSep Finset.univ fun x => A c x) ⊢ bigSep Finset.univ fun c => bigSep Finset.univ fun x => B c x := by
  classical
  rw [bigSep_turn A, bigSep_turn B]
  exact bigSep_mono (s := Finset.univ) (fun (x : X) _ => h x)

omit [FloatOps F] in
theorem turn_ch (h : ℕ) (p : Bool × Bool) :
    (bigSep Finset.univ fun c => mintCh c h p : sProp 𝕄) ⊢ bigSep Finset.univ fun c => payCh c h p := by
  unfold mintCh payCh
  rw [bigSep_sep', bigSep_sep',
    bigSep_univ_equiv (ringD p.1) (fun c : Dev nD => (dutyTok ER (dcell p.1 p.2 true (lay h) (par (h % 16 + 1)) c) (h % 16 / 2) false : sProp 𝕄))]
  exact BI.Entails.refl _

omit [FloatOps F] in
theorem turn_sh (j : ℕ) :
    (bigSep Finset.univ fun c => mintSh c j : sProp 𝕄) ⊢ bigSep Finset.univ fun c => paySh c j := by
  unfold mintSh paySh
  rw [bigSep_sep', bigSep_sep',
    bigSep_univ_equiv (ringD true) (fun c : Dev nD => (dutyTok ER (rcell c) j false : sProp 𝕄)),
    bigSep_univ_equiv (ringD false) (fun c : Dev nD => (dutyTok ER (rcell c) j true : sProp 𝕄))]
  exact BI.Entails.refl _

omit [FloatOps F] in
theorem turn_all : (bigSep Finset.univ fun c : Dev nD => (mint c : sProp 𝕄)) ⊢ bigSep Finset.univ fun c : Dev nD => pay c := by
  unfold mint pay
  rw [bigSep_sep', bigSep_sep']
  refine Idealize.SL.BI.sep_mono (turn fun h => ?_) (turn_sh 0)
  rw [bigSep_sep', bigSep_sep']
  exact Idealize.SL.BI.sep_mono (turn fun p => turn_ch h.val p) (turn_sh _)

end Cert.Proof.KernelIdeal

end
-- ==== Proof.KernelIdeal.Creds.lean ====
/-
The rights to wait, and the rights of a device put together hop by hop.
-/
module

public import proofs.«01_k».proof.Proof.KernelIdeal.Tokens
public import Idealize.ShloMosaic.Lib.Pipeline.Launch

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- The rights to wait for the arrivals of one direction of a hop. -/
def dirCred (d : Bool) (c : Dev nD) (l : Fin 3) (k ι : ℕ) : sProp 𝕄 :=
  iprop(cred (tallyAt (dcell d true true l (par (k + 1)) c) ι (N true)) ∗ cred (tallyAt (dcell d false true l (par (k + 1)) c) ι (N false)))
/-- The right to wait for both neighbours. -/
def shCred (c : Dev nD) (ι : ℕ) : sProp 𝕄 := cred (tallyAt (rcell c) ι 2)
def hopCred (c : Dev nD) (h : ℕ) : sProp 𝕄 :=
  if h % 16 = 15 then dirCred false c (lay h) (h % 16) (2 * h + 2)
  else iprop((shCred c (2 * h + 3) ∗ dirCred true c (lay h) (h % 16) (2 * h + 2)) ∗ dirCred false c (lay h) (h % 16) (2 * h + 2))

omit [FloatOps F] in
theorem launch_dir (d : Bool) (l : Fin 3) (k ι : ℕ) (c : Dev nD) :
    (Pipeline.launchCred (fun c => sendOwe d c l k ι) c : sProp 𝕄) ⊢ dirCred d c l k ι := by
  unfold sendOwe dirCred
  rw [Pipeline.launchCred_add (fun c => tallyAt (dcell d true true l (par (k + 1)) (tgt d c)) ι (N true))]
  exact Idealize.SL.BI.sep_mono
    (Pipeline.launchCred_tallyAt (.dma (sm d true true l (par (k + 1)))) (tgt d) (src d) (tgt_src d) (src_tgt d) ι (N true) c)
    (Pipeline.launchCred_tallyAt (.dma (sm d false true l (par (k + 1)))) (tgt d) (src d) (tgt_src d) (src_tgt d) ι (N false) c)

omit [FloatOps F] in
theorem launch_sh (ι : ℕ) (c : Dev nD) : (Pipeline.launchCred (fun c => shakeOwe c ι) c : sProp 𝕄) ⊢ shCred c ι := by
  unfold shakeOwe shCred
  rw [Pipeline.launchCred_add (fun c => tallyAt (rcell (nxt c)) ι 1), show (2 : ℕ) = 1 + 1 from rfl, ← tallyAt_add]
  exact (Idealize.SL.BI.sep_mono
    (Pipeline.launchCred_tallyAt (.reg bar) nxt prv nxt_prv prv_nxt ι 1 c)
    (Pipeline.launchCred_tallyAt (.reg bar) prv nxt prv_nxt nxt_prv ι 1 c)).trans (cred_add _ _).2

omit [FloatOps F] in
theorem launch_hop (h : ℕ) (c : Dev nD) : (Pipeline.launchCred (fun c => hopOwe c h) c : sProp 𝕄) ⊢ hopCred c h := by
  unfold hopOwe hopCred
  by_cases e : h % 16 = 15
  · simp only [if_pos e]; exact launch_dir _ _ _ _ c
  · simp only [if_neg e]
    rw [Pipeline.launchCred_add (fun c => shakeOwe c (2 * h + 3) + sendOwe true c (lay h) (h % 16) (2 * h + 2)),
      Pipeline.launchCred_add (fun c => shakeOwe c (2 * h + 3))]
    exact Idealize.SL.BI.sep_mono (Idealize.SL.BI.sep_mono (launch_sh _ c) (launch_dir _ _ _ _ c)) (launch_dir _ _ _ _ c)

omit [FloatOps F] in
theorem creds (c : Dev nD) :
    (Pipeline.launchCred O₀ c : sProp 𝕄) ⊢ iprop((bigSep (Finset.Ico 0 48) (hopCred c)) ∗ shCred c 1) := by
  unfold O₀ owe
  rw [Pipeline.launchCred_add (fun c => ∑ i ∈ Finset.Ico 0 48, hopOwe c i), Pipeline.launchCred_sum (Finset.Ico 0 48) (fun i c => hopOwe c i)]
  exact Idealize.SL.BI.sep_mono (bigSep_mono (s := Finset.Ico 0 48) (fun (h : ℕ) _ => launch_hop h c)) (launch_sh 1 c)

omit [FloatOps F] in
theorem bigSep_hops (Φ : ℕ → sProp 𝕄) : (bigSep Finset.univ fun h : Fin 48 => Φ h.val) = bigSep (Finset.Ico 0 48) Φ := by
  have e : Finset.Ico 0 48 = (Finset.univ : Finset (Fin 48)).map Fin.valEmbedding := by decide
  rw [e, bigSep_map]; rfl

omit [FloatOps F] in
/-- The duties and the rights to wait of one hop are the hop's rights. -/
theorem hopTok_of (c : Dev nD) (h : ℕ) (hh : h < 48) :
    iprop(((bigSep Finset.univ fun p => payCh c h p) ∗ paySh c (jr h)) ∗ hopCred c h) ⊢ (hopTok c h : sProp 𝕄) := by
  have e : 16 * (lay h).val + h % 16 = h := by show 16 * (h / 16 % 3) + h % 16 = h; omega
  have e' : (lay h).val = h / 16 := by show h / 16 % 3 = h / 16; omega
  unfold hopTok hopTok' hopCred dirTok chTok payCh dirCred shCred shTok paySh
  rw [bigSep_univ_prod, bigSep_bool, bigSep_bool, bigSep_bool, e]
  by_cases h15 : h % 16 = 15
  · simp only [if_pos h15]
    iintro ⟨⟨⟨⟨⟨A1, A2⟩, B1, B2⟩, -⟩, -⟩, C1, C2⟩
    isplitl [A1 A2 C2]
    · isplitl [A1]; · iexact A1
      isplitl [A2] <;> iassumption
    isplitl [B1]; · iexact B1
    isplitl [B2] <;> iassumption
  · simp only [if_neg h15]
    rw [show jr h = 1 + 15 * (lay h).val + h % 16 by unfold jr; rw [if_neg h15, e']]
    iintro ⟨⟨⟨⟨⟨A1, A2⟩, B1, B2⟩, ⟨A3, A4⟩, B3, B4⟩, S1, S2⟩, ⟨S3, C3, C4⟩, C1, C2⟩
    isplitl [A1 A2 B1 B2 C1 C2]
    · isplitl [A1 A2 C2]
      · isplitl [A1]; · iexact A1
        isplitl [A2] <;> iassumption
      isplitl [B1]; · iexact B1
      isplitl [B2] <;> iassumption
    isplitl [A3 A4 B3 B4 C3 C4]
    · isplitl [A3 A4 C4]
      · isplitl [A3]; · iexact A3
        isplitl [A4] <;> iassumption
      isplitl [B3]; · iexact B3
      isplitl [B4] <;> iassumption
    isplitl [S1]; · iexact S1
    isplitl [S2] <;> iassumption

omit [FloatOps F] in
theorem toks_of (c : Dev nD) : iprop(pay c ∗ Pipeline.launchCred O₀ c) ⊢ (iprop(shTok 0 1 c ∗ toks c 0) : sProp 𝕄) := by
  iintro ⟨Hp, Hc⟩
  ihave Hc := (creds c) $$ Hc
  icases Hc with ⟨Hh, Hs⟩
  unfold pay
  icases Hp with ⟨Hq, Hr⟩
  ihave Hq := (Entails.of_eq (bigSep_hops (fun h => iprop((bigSep Finset.univ fun p => payCh c h p) ∗ paySh c (jr h))))) $$ Hq
  isplitl [Hr Hs]
  · unfold paySh shCred shTok
    icases Hr with ⟨H1, H2⟩
    isplitl [H1]; · iexact H1
    isplitl [H2] <;> iassumption
  unfold toks
  iapply ((Entails.of_eq (bigSep_sep' (Finset.Ico 0 48) (fun h => iprop((bigSep Finset.univ fun p => payCh c h p) ∗ paySh c (jr h))) (hopCred c)).symm).trans
    (bigSep_mono (s := Finset.Ico 0 48) (fun (h : ℕ) hh => hopTok_of c h (Finset.mem_Ico.mp hh).2)))
  isplitl [Hq] <;> iassumption

end Cert.Proof.KernelIdeal

end
-- ==== Proof.KernelIdeal.Run.lean ====
/-
The launch: the cells are funded, the rights dealt around the ring, and every device runs its body.
-/
module

public import proofs.«01_k».proof.Proof.KernelIdeal.Creds
public import Idealize.ShloMosaic.Lib.Pipeline.CollectiveSegs

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The kernel's own semaphores. -/
def osem : Ch → SemLoc sig := fun (d, w, x, l, s) => .dma (sm d w x l s)

theorem ownSemFacts : Pipeline.OwnSemFacts cfg0.spec osem := by decide +kernel

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf ringCells ringToks)

/-- What the launch deals device `c`. -/
def G (c : Dev nD) : sProp 𝕄 :=
  iprop((bigSep Finset.univ fun k : Option Ch => roundState ER (Rd (Wt m ρ)) (kcell (c, k)) 0)
    ∗ (bigSep Finset.univ fun k : Option Ch => iprop(atPos ER (kcell (c, k)) 0 ∅ 0 ∗ reached ER (kcell (c, k)) 0)) ∗ mint c)

/-- What every device knows before the levels are set. -/
def known : sProp 𝕄 :=
  iprop((bigSep Finset.univ fun p : Dev nD × Option Ch => iprop(∃ κ : ℕ, cellInv ER (Rd (Wt m ρ)) κ (kcell p)))
    ∗ bigSep Finset.univ fun p : Dev nD × Option Ch => reached ER (kcell p) 0)
instance known_persistent : BI.Persistent (known m ρ) := by unfold known; infer_instance

/-- What the global step makes of it. -/
def G' (c : Dev nD) : sProp 𝕄 :=
  iprop(known m ρ ∗ (bigSep Finset.univ fun k : Option Ch => atPos ER (kcell (c, k)) 0 ∅ 0) ∗ pay c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Option Ch => Φ (kcell (c, k)) := by
    unfold ringCells; rw [bigSep_map, bigSep_univ_prod]; rfl
  iintro HX
  imod (Rounds.fund ER (Rd (Wt m ρ)) ringCells ringToks) $$ HX with ⟨Hst, Hr, Hat, Htok⟩
  imodintro
  ihave Hst' := (Entails.of_eq (hX fun g => roundState ER (Rd (Wt m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq ringToks_eq) $$ Htok
  unfold G; simp only [bigSep_sep']
  isplitl [Hst']; · iexact Hst'
  isplitl [Hat' Hr']
  · isplitl [Hat'] <;> iassumption
  iexact Htok'

omit [FloatOps F] in
/-- The transfer semaphores are the kernel's own; -/
theorem ownSems0_eq (c : Dev nD) : (Pipeline.ownSems0 (Ix := ℕ) (Name := ℕ) (U := UU) (Lvl := ℕ) (Val := Elt F) (τ := τ) osem c : sProp 𝕄)
    = bigSep Finset.univ (rest (F := F) c) := rfl
omit [FloatOps F] in
/-- the ready semaphore is the launch's one unscoped semaphore. -/
theorem unscopedSems0_eq (c : Dev nD) : (unscopedSems0 c : sProp 𝕄) = semVal (rcell c) 0 := by
  unfold unscopedSems0; rw [bigSep_eq_bigSepL_of_eq [SemLoc.reg bar] (by decide) (by decide)]; rfl

omit [FloatOps F] in
theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Option Ch => semVal (kcell (c, k)) 0 : sProp 𝕄) := by
  rw [ownSems0_eq, unscopedSems0_eq, bigSep_option]
  iintro ⟨HS, HB⟩
  isplitl [HB]; · iexact HB
  iexact HS

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k : Option Ch => iprop(∃ κ : ℕ, cellInv ER (Rd (Wt m ρ)) κ (kcell (c, k))))
          ∗ (bigSep Finset.univ fun k : Option Ch => iprop(atPos ER (kcell (c, k)) 0 ∅ 0 ∗ reached ER (kcell (c, k)) 0)) ∗ mint c) := by
  unfold G
  iintro ⟨Hos, Hus, Hst, Hat, Htok⟩
  ihave Hv := (sems0_eq (F := F) c) $$ [Hos Hus]
  · isplitl [Hos] <;> iassumption
  imod (show iprop((bigSep Finset.univ fun k : Option Ch => semVal (kcell (c, k)) 0) ∗ bigSep Finset.univ fun k : Option Ch => roundState ER (Rd (Wt m ρ)) (kcell (c, k)) 0)
      ⊢ (|={Set.univ}=> bigSep Finset.univ fun k : Option Ch => iprop(∃ κ : ℕ, cellInv ER (Rd (Wt m ρ)) κ (kcell (c, k))) : sProp 𝕄) from by
        rw [← bigSep_sep']
        exact (bigSep_mono fun k _ => (Rounds.body_intro ER (Rd (Wt m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Option Ch => iprop(∃ κ : ℕ, cellInv ER (Rd (Wt m ρ)) κ (kcell (c, k))))
          ∗ (bigSep Finset.univ fun k : Option Ch => iprop(atPos ER (kcell (c, k)) 0 ∅ 0 ∗ reached ER (kcell (c, k)) 0)) ∗ mint c) : sProp 𝕄)
      ⊢ bigSep Finset.univ (G' m ρ) := by
  rw [bigSep_sep', bigSep_sep', ← bigSep_univ_prod (fun ck : Dev nD × Option Ch => iprop(∃ κ : ℕ, cellInv ER (Rd (Wt m ρ)) κ (kcell ck))),
    bigSep_congr (s := Finset.univ) (fun (c : Dev nD) _ => bigSep_sep' Finset.univ (fun k : Option Ch => (atPos ER (kcell (c, k)) 0 ∅ 0 : sProp 𝕄)) (fun k => reached ER (kcell (c, k)) 0)),
    bigSep_sep', ← bigSep_univ_prod (fun ck : Dev nD × Option Ch => (reached ER (kcell ck) 0 : sProp 𝕄))]
  iintro ⟨#HI, ⟨Hat, #HR⟩, Htok⟩
  ihave Htk := (turn_all (F := F)) $$ Htok
  iapply (bigSep_with_persistent (R := known m ρ)
    (Φ := fun c : Dev nD => iprop((bigSep Finset.univ fun k : Option Ch => atPos ER (kcell (c, k)) 0 ∅ 0) ∗ pay c)) (Ψ := G' m ρ)
    fun c _ => by unfold G'; exact BI.Entails.refl _)
  isplitr
  · unfold known; isplitl; · iexact HI
    iexact HR
  · iapply (Entails.of_eq (bigSep_sep' Finset.univ (fun c : Dev nD => bigSep Finset.univ fun k : Option Ch => (atPos ER (kcell (c, k)) 0 ∅ 0 : sProp 𝕄)) pay).symm)
    isplitl [Hat]; · iexact Hat
    iexact Htk

/-- The global step: all semaphores of every device at once. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The theorem's side conditions -/

omit [FloatOps F] in
theorem pos_of (c : Dev nD) :
    iprop((bigSep Finset.univ fun p : Dev nD × Option Ch => (reached ER (kcell p) 0 : sProp 𝕄)) ∗ bigSep Finset.univ fun k : Option Ch => atPos ER (kcell (c, k)) 0 ∅ 0)
      ⊢ bigSep Finset.univ fun k : Option Ch => posAt (kcell (c, k)) 0 :=
  bigSep_with_persistent (S := (Finset.univ : Finset (Option Ch))) (R := bigSep Finset.univ fun p : Dev nD × Option Ch => (reached ER (kcell p) 0 : sProp 𝕄))
    (Φ := fun k => atPos ER (kcell (c, k)) 0 ∅ 0) (Ψ := fun k => posAt (kcell (c, k)) 0) fun k _ => by
      unfold posAt
      iintro ⟨#HR, H⟩
      isplitl [H]; · iexact H
      iapply (reached_at (F := F) (c, k)); iexact HR

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start (Wt m ρ) c ∗ emp) := by
  iintro ⟨-, #Hlev, Hcr, -, HG⟩
  unfold G' known
  icases HG with ⟨⟨#HI, #HR⟩, Hat, Hpay⟩
  ihave Htk := (toks_of (F := F) c) $$ [Hpay Hcr]
  · isplitl [Hpay] <;> iassumption
  icases Htk with ⟨Hs, Ht⟩
  ihave Hpos := (pos_of (F := F) c) $$ [Hat]
  · isplitr; · iexact HR
    iexact Hat
  imodintro
  unfold start ctx
  isplitl
  · isplitr
    · isplitr; · iexact HI
      isplitr; · iexact HR
      iexact Hlev
    isplitl [Hpos]; · iexact Hpos
    isplitl [Hs]; · iexact Hs
    iexact Ht
  · iempintro

theorem phi0_intro (c : Dev nD) :
    iprop(start (Wt m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (Wt m ρ) c from rfl, scopedRest0_eq]
  unfold Φ₀ scrs
  iintro ⟨Hs, -, H0, H1, H2, H3⟩
  isplitl [Hs]; · iexact Hs
  unfold scr
  isplitl [H0 H1]
  · isplitl [H0]; · iexact H0
    iexact H1
  isplitl [H2]; · iexact H2
  iexact H3

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scrs scr
  iintro ⟨⟨⟨H0, H1⟩, H2, H3⟩, Hr, Hz⟩
  isplitl [Hz]; · iexact Hz
  isplitl [Hr]; · iexact Hr
  isplitl [H0]; · iexact H0
  isplitl [H1]; · iexact H1
  isplitl [H2]; · iexact H2
  iexact H3

theorem waits (c : Dev nD) : (levAts L lv : sProp 𝕄) ⊢ Pipeline.cellsWaits cfgs (dats m ρ) (0 : ℕ) 0 c :=
  Pipeline.cellsWaits_intro cfgs (dats m ρ) (0 : ℕ) 0 c fun w s t =>
    mayWait c _ (by decide) (by
      rcases t with ⟨_ | _, ht⟩
      · exact above_O₀ c
      · exact above_zero 0)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every weakly fair execution on the thirty-two devices terminates,
    and every final state has each device's result array at the computed contents, the operands unchanged and every semaphore
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start (Wt m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Proof.KernelIdeal

end
-- ==== Proof.KernelIdeal.Frame.lean ====
/-
The run, read at the argument arrays and at the result.
-/
module

public import proofs.«01_k».proof.Proof.KernelIdeal.Run

@[expose] public section

noncomputable section

namespace Cert.Proof.KernelIdeal

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- An argument array holds after the run what it held. -/
theorem finalA_in (c : Dev nD) (w : Fin 8) (hw : w.val < 7) : finalA m ρ c w = (s₀ m ρ).mem ((cfg0.win w).arr.view.loc (c : Thread nD τ)) :=
  (dats (F := F) m ρ 0 c).arrAt_in w (by revert w; decide) _

/-- The result array's one block, all of it, read back is what the body left in the staging buffer. -/
theorem finalA_out (c : Dev nD) : (win0_7.blk (0 : Fin 1)).view.read (Elt F) (finalA m ρ c (7 : Fin 8)) = outAt m ρ c := by
  unfold finalA
  rw [show cfg0.N = ((0 : Fin 1) : Fin cfg0.N).val + 1 from rfl, (dats m ρ 0 c).arrAt_succ (7 : Fin 8) (0 : Fin 1)]
  rw [show (cfg0.win (7 : Fin 8)).flush (0 : Fin 1) = true from by decide, if_pos rfl]
  exact View.read_write_univ _ _

theorem read_out (f : S512x256.Idx → Elt F .f32) : (win0_7.blk (0 : Fin 1)).view.read (Elt F) f = f :=
  Memref.read_access_unit_zero (Elt F) main_v1 (funext fun a => by fin_cases a <;> decide) (fun a => by fin_cases a <;> decide) f

/-- The result array. -/
theorem finalA_eq (c : Dev nD) : finalA m ρ c (7 : Fin 8) = outAt m ρ c := by
  rw [← finalA_out]; exact (read_out _).symm

/-- The run: the arguments end unchanged, the result at `outAt`, every semaphore counter at zero. -/
theorem run : θ_run defs (onTc (τ := τ) (main (F := F))) ⟨m, fun _ => 0, ρ⟩ fun r =>
    (∀ c : Dev nD, r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0 :=
  (θ_run defs _ _).mono (fun r h => ⟨fun c => ⟨(h.1 c (7 : Fin 8)).trans (finalA_eq m ρ c),
    (h.1 c (0 : Fin 8)).trans (finalA_in m ρ c (0 : Fin 8) (by decide)),
    (h.1 c (1 : Fin 8)).trans (finalA_in m ρ c (1 : Fin 8) (by decide)),
    (h.1 c (2 : Fin 8)).trans (finalA_in m ρ c (2 : Fin 8) (by decide)),
    (h.1 c (3 : Fin 8)).trans (finalA_in m ρ c (3 : Fin 8) (by decide)),
    (h.1 c (4 : Fin 8)).trans (finalA_in m ρ c (4 : Fin 8) (by decide)),
    (h.1 c (5 : Fin 8)).trans (finalA_in m ρ c (5 : Fin 8) (by decide)),
    (h.1 c (6 : Fin 8)).trans (finalA_in m ρ c (6 : Fin 8) (by decide))⟩, h.2⟩) (run_main m ρ)

/-! ### The operands, as the arrays -/

theorem X0_eq (c : Dev nD) : X0 m ρ c = m ((c : Thread nD τ).loc main_arg0) :=
  Memref.read_access_unit_zero (Elt F) main_arg0 (funext fun a => by fin_cases a <;> decide) (fun a => by fin_cases a <;> decide) _
theorem X1_eq (c : Dev nD) : X1 m ρ c = m ((c : Thread nD τ).loc main_arg1) :=
  Memref.read_access_unit_zero (Elt F) main_arg1 (funext fun a => by fin_cases a <;> decide) (fun a => by fin_cases a <;> decide) _
theorem X2_eq (c : Dev nD) : X2 m ρ c = m ((c : Thread nD τ).loc main_arg2) :=
  Memref.read_access_unit_zero (Elt F) main_arg2 (funext fun a => by fin_cases a <;> decide) (fun a => by fin_cases a <;> decide) _
theorem X3_eq (c : Dev nD) : X3 m ρ c = m ((c : Thread nD τ).loc main_arg3) :=
  Memref.read_access_unit_zero (Elt F) main_arg3 (funext fun a => by fin_cases a <;> decide) (fun a => by fin_cases a <;> decide) _
theorem X4_eq (c : Dev nD) : X4 m ρ c = m ((c : Thread nD τ).loc main_arg4) :=
  Memref.read_access_unit_zero (Elt F) main_arg4 (funext fun a => by fin_cases a <;> decide) (fun a => by fin_cases a <;> decide) _
theorem X5_eq (c : Dev nD) : X5 m ρ c = m ((c : Thread nD τ).loc main_arg5) :=
  Memref.read_access_unit_zero (Elt F) main_arg5 (funext fun a => by fin_cases a <;> decide) (fun a => by fin_cases a <;> decide) _
theorem X6_eq (c : Dev nD) : X6 m ρ c = m ((c : Thread nD τ).loc main_arg6) :=
  Memref.read_access_unit_zero (Elt F) main_arg6 (funext fun a => by fin_cases a <;> decide) (fun a => by fin_cases a <;> decide) _

end Cert.Proof.KernelIdeal

end
-- ==== Proof.Value.Sums.lean ====
/-
A sum over the whole contracted axis is the sum over its thirty-two blocks.
-/
module

public import Mathlib.Algebra.BigOperators.Fin
public import Mathlib.Algebra.BigOperators.Group.Finset.Sigma
public import Mathlib.Logic.Equiv.Fin.Basic

@[expose] public section

namespace Cert.Proof.Value

/-- Row `k` of block `d`, as a row of the whole array. -/
def at512 (d : Fin 32) (k : Fin 512) : Fin 16384 := ⟨d.val * 512 + k.val, by omega⟩

theorem sum_blocks {M : Type} [AddCommMonoid M] (f : Fin 16384 → M) : ∑ K, f K = ∑ d : Fin 32, ∑ k : Fin 512, f (at512 d k) := by
  rw [← Fintype.sum_prod_type' fun d k => f (at512 d k)]
  refine (Fintype.sum_equiv (finProdFinEquiv (m := 32) (n := 512)) _ _ fun p => congrArg f (Fin.ext ?_)).symm
  show p.1.val * 512 + p.2.val = p.2.val + 512 * p.1.val
  omega

end Cert.Proof.Value

end
-- ==== Proof.Value.Reference.lean ====
/-
The reference, read at an element: one layer is relu (X · W) · V, a sum over the whole hidden axis.
-/
module

public import proofs.«01_k».proof.Proof.Gen.ReferenceIdeal.Run
public import proofs.«01_k».proof.Proof.Value.Sums
public import Idealize.ShloMosaic.Lib.Pointwise

@[expose] public section

noncomputable section

namespace Cert.Proof.Value

open Cert.ReferenceIdeal Cert.ReferenceIdeal.Gen
open Idealize.ShloMosaic

/-- One layer over whole arrays, in the reference's operations. -/
def refLayer (X : FVec Ideal S16384x256 .f32) (W : FVec Ideal S256x16384 .f32) (V : FVec Ideal S16384x256 .f32) : FVec Ideal S16384x256 .f32 :=
  Host.dotGeneral dot_S16384x16384_S16384x256_S16384x256_1_0_0_1_n_n none
    (maximumf (Host.dotGeneral dot_S16384x256_S256x16384_S16384x16384_1_0_0_1_n_n none X W)
      (broadcastInDim S16384x16384 ![] bcast_S_S16384x16384 (constant S_ .f32 0x00000000#32))) V

theorem refLayer_apply (X : FVec Ideal S16384x256 .f32) (W : FVec Ideal S256x16384 .f32) (V : FVec Ideal S16384x256 .f32)
    (R : Fin 16384) (j : Fin 256) :
    refLayer X W V (ix2 R j)
      = ∑ K : Fin 16384, max (∑ i : Fin 256, X (ix2 R i) * W (ix2 i K)) 0 * V (ix2 K j) := by
  pointwise [refLayer]

end Cert.Proof.Value

end
-- ==== Proof.Value.Device.lean ====
/-
What one device computes, read at an element: every pair of weight blocks contributes once, in the order the ring brings them,
and the thirty-two contributions are those of all devices.
-/
module

public import proofs.«01_k».proof.Proof.KernelIdeal.Body
public import Idealize.ShloMosaic.Lib.Pointwise

@[expose] public section

noncomputable section

namespace Cert.Proof.Value

open Cert.KernelIdeal Cert.KernelIdeal.Gen Cert.Proof.KernelIdeal
open Idealize.ShloMosaic

/-- What one pair of weight blocks contributes. -/
theorem part_apply (x : FVec Ideal S512x256 .bf16) (wi : FVec Ideal S256x512 .bf16) (wo : FVec Ideal S512x256 .bf16) (r : Fin 512) (j : Fin 256) :
    part x wi wo (ix2 r j)
      = ∑ k : Fin 512, max (∑ i : Fin 256, x (ix2 r i) * wi (ix2 i k)) 0 * wo (ix2 k j) := by
  pointwise [part]

/-- The devices whose blocks device `c` has used after hop `k`, in order. -/
def seen (c : Dev nD) : ℕ → List (Dev nD)
  | 0 => [c]
  | k + 1 => seen c k ++ [(src false)^[k + 1] c, (src true)^[k + 1] c]

/-- Over a whole layer every device's blocks are used once. -/
theorem seen_all (c : Dev nD) : (seen c 15 ++ [(src false)^[16] c]).Perm (List.finRange 32) := by
  revert c; decide +kernel

variable (W : (w : Bool) → Fin 3 → Dev nD → Blk Ideal w)

theorem accAt_apply (l : Fin 3) (x : FVec Ideal S512x256 .bf16) (c : Dev nD) (k : ℕ) (e : S512x256.Idx) :
    accAt W l x c k e = ((seen c k).map fun d => part x (W false l d) (W true l d) e).sum := by
  induction k with
  | zero => simp [accAt, seen, C, held]
  | succ k ih =>
    show accAt W l x c k e + C W false l x (k + 1) c e + C W true l x (k + 1) c e = _
    rw [ih]
    simp only [seen, List.map_append, List.sum_append, List.map_cons, List.map_nil, List.sum_cons, List.sum_nil, add_zero]
    rw [add_assoc]
    rfl

/-- A layer's result is the sum of all devices' contributions. -/
theorem layerOut_apply (l : Fin 3) (x : FVec Ideal S512x256 .bf16) (c : Dev nD) (e : S512x256.Idx) :
    layerOut W l x c e = ∑ d : Fin 32, part x (W false l d) (W true l d) e := by
  show accAt W l x c 15 e + C W false l x 16 c e = _
  rw [accAt_apply, ← List.sum_ofFn, List.ofFn_eq_map, ← ((seen_all c).map fun d => part x (W false l d) (W true l d) e).sum_eq]
  simp only [List.map_append, List.sum_append, List.map_cons, List.map_nil, List.sum_cons, List.sum_nil, add_zero]
  rfl

end Cert.Proof.Value

end
-- ==== Proof.Value.Blocks.lean ====
/-
One layer on a device's block is the device's block of the layer over the whole arrays.
-/
module

public import proofs.«01_k».proof.Proof.Value.Reference
public import proofs.«01_k».proof.Proof.Value.Device
public import Idealize.ShloMosaic.Lib.Layout

@[expose] public section

noncomputable section

namespace Cert.Proof.Value

open Cert.Proof.KernelIdeal
open Idealize.ShloMosaic

/-- Device `c`'s rows of an array cut by rows, and its columns of one cut by columns. -/
abbrev rowsOf (c : Fin 32) (v : (⟨2, ![16384, 256]⟩ : Shape).Idx → EReal) : (⟨2, ![512, 256]⟩ : Shape).Idx → EReal :=
  Layout.block ⟨2, ![512, 256]⟩ ⟨2, ![16384, 256]⟩ 0 32 c v
abbrev colsOf (c : Fin 32) (v : (⟨2, ![256, 16384]⟩ : Shape).Idx → EReal) : (⟨2, ![256, 512]⟩ : Shape).Idx → EReal :=
  Layout.block ⟨2, ![256, 512]⟩ ⟨2, ![256, 16384]⟩ 1 32 c v

theorem rowsOf_apply (c : Fin 32) (v : (⟨2, ![16384, 256]⟩ : Shape).Idx → EReal) (r : Fin 512) (j : Fin 256) :
    rowsOf c v (ix2 r j) = v (ix2 (at512 c r) j) := by
  refine congrArg v (funext fun a => ?_)
  match a with
  | ⟨0, _⟩ => rfl
  | ⟨1, _⟩ => rfl
theorem colsOf_apply (c : Fin 32) (v : (⟨2, ![256, 16384]⟩ : Shape).Idx → EReal) (i : Fin 256) (k : Fin 512) :
    colsOf c v (ix2 i k) = v (ix2 i (at512 c k)) := by
  refine congrArg v (funext fun a => ?_)
  match a with
  | ⟨0, _⟩ => rfl
  | ⟨1, _⟩ => rfl

/-- One layer: device `c`, holding its rows of `X` and getting every device's weight blocks, ends with its rows of the layer's
    result. -/
theorem layer_block (W : (w : Bool) → Fin 3 → Fin 32 → Blk Ideal w) (l : Fin 3) (X : (⟨2, ![16384, 256]⟩ : Shape).Idx → EReal)
    (Wi : (⟨2, ![256, 16384]⟩ : Shape).Idx → EReal) (Wo : (⟨2, ![16384, 256]⟩ : Shape).Idx → EReal)
    (hi : ∀ d, W false l d = colsOf d Wi) (ho : ∀ d, W true l d = rowsOf d Wo) (c : Fin 32) :
    layerOut W l (rowsOf c X) c = rowsOf c (refLayer X Wi Wo) := by
  funext e
  obtain ⟨r, j, rfl⟩ : ∃ (r : Fin 512) (j : Fin 256), e = ix2 r j := ⟨e 0, e 1, by
    funext a
    match a with
    | ⟨0, _⟩ => rfl
    | ⟨1, _⟩ => rfl⟩
  rw [layerOut_apply, rowsOf_apply, refLayer_apply, sum_blocks]
  refine Finset.sum_congr rfl fun d _ => ?_
  rw [hi, ho, part_apply]
  simp only [rowsOf_apply, colsOf_apply]

/-- Three layers. -/
def refOut (X : (⟨2, ![16384, 256]⟩ : Shape).Idx → EReal) (W0 : (⟨2, ![256, 16384]⟩ : Shape).Idx → EReal) (V0 : (⟨2, ![16384, 256]⟩ : Shape).Idx → EReal)
    (W1 : (⟨2, ![256, 16384]⟩ : Shape).Idx → EReal) (V1 : (⟨2, ![16384, 256]⟩ : Shape).Idx → EReal)
    (W2 : (⟨2, ![256, 16384]⟩ : Shape).Idx → EReal) (V2 : (⟨2, ![16384, 256]⟩ : Shape).Idx → EReal) : (⟨2, ![16384, 256]⟩ : Shape).Idx → EReal :=
  refLayer (refLayer (refLayer X W0 V0) W1 V1) W2 V2

end Cert.Proof.Value

end
-- ==== Proof.lean ====
/-
The certificate's claims. `Cert.Kernel` and `Cert.KernelIdeal` run by `run` (Proof/Kernel/Frame.lean and
Proof/KernelIdeal/Frame.lean); the reference by its generated run; each device's result is its rows of the reference's by
`layer_block` (Proof/Value/Blocks.lean), once per layer.
-/
module

public import proofs.«01_k».proof.Defs
public import proofs.«01_k».proof.Proof.Kernel.Frame
public import proofs.«01_k».proof.Proof.KernelIdeal.Frame
public import proofs.«01_k».proof.Proof.Gen.ReferenceIdeal.Run
public import proofs.«01_k».proof.Proof.Value.Blocks

@[expose] public section

noncomputable section

namespace Cert.Proof

open Idealize.ShloMosaic Idealize.ShloMosaic.TcCoe Idealize.SL.Sem

/-- The kernel at the bit patterns. -/
theorem frame_kernel : Cert.quiescent_Kernel := by
  intro m ρ _
  exact (θ_run _ _ _).mono (fun r h => ⟨fun c => (h.1 c).2, h.2⟩) (Cert.Proof.Kernel.run (F := Bits) m ρ)

/-- The kernel at the extended reals. -/
theorem frame_kernelIdeal : Cert.quiescent_KernelIdeal := by
  intro m ρ _
  exact (θ_run _ _ _).mono (fun r h => ⟨fun c => (h.1 c).2, h.2⟩) (Cert.Proof.KernelIdeal.run (F := Ideal) m ρ)

/-- The reference, which declares no semaphore. -/
theorem frame_referenceIdeal : Cert.quiescent_ReferenceIdeal := by
  intro m ρ _
  exact (θ_run _ _ _).mono (fun r h => ⟨fun c => (h c).2, sem_eq_zero_of_no_sems (by decide) r.2⟩)
    (Cert.ReferenceIdeal.Value.run (F := Ideal) m ρ)

section Value

open Cert.KernelIdeal Cert.KernelIdeal.Gen Cert.Proof.KernelIdeal Cert.Proof.Value

/-- Over the extended reals a change of format does nothing. -/
theorem narrow_in (X : FVec Ideal S256x512 .f32) : (nI X : S256x512.Idx → EReal) = X := by
  show (shapeCast S256x512 X shapeCasts_S256x512_S256x512 : FVec Ideal S256x512 .f32) = X
  rw [shapeCast_self]
theorem narrow_out (X : FVec Ideal S512x256 .f32) : (nO X : S512x256.Idx → EReal) = X := by
  show (shapeCast S512x256 X shapeCasts_S512x256_S512x256 : FVec Ideal S512x256 .f32) = X
  rw [shapeCast_self]

/-- Where every device holds its blocks of whole arrays, device `c`'s result is its rows of the three layers over them. -/
theorem outAt_eq (m : (ℓ : Loc nD τ sig) → Buf (Elt Ideal) ℓ) (ρ : Dev nD → PrngReg)
    (X V0 V1 V2 : (⟨2, ![16384, 256]⟩ : Shape).Idx → EReal) (W0 W1 W2 : (⟨2, ![256, 16384]⟩ : Shape).Idx → EReal)
    (h0 : ∀ c : Dev nD, m ((c : Thread nD τ).loc main_arg0) = rowsOf c X)
    (h1 : ∀ c : Dev nD, m ((c : Thread nD τ).loc main_arg1) = colsOf c W0)
    (h2 : ∀ c : Dev nD, m ((c : Thread nD τ).loc main_arg2) = rowsOf c V0)
    (h3 : ∀ c : Dev nD, m ((c : Thread nD τ).loc main_arg3) = colsOf c W1)
    (h4 : ∀ c : Dev nD, m ((c : Thread nD τ).loc main_arg4) = rowsOf c V1)
    (h5 : ∀ c : Dev nD, m ((c : Thread nD τ).loc main_arg5) = colsOf c W2)
    (h6 : ∀ c : Dev nD, m ((c : Thread nD τ).loc main_arg6) = rowsOf c V2) (c : Dev nD) :
    outAt m ρ c = rowsOf c (refOut X W0 V0 W1 V1 W2 V2) := by
  have e1 : out1 (Wt m ρ) (X0 m ρ c) c = rowsOf c (refLayer X W0 V0) := by
    unfold out1
    rw [show nO (X0 m ρ c) = rowsOf c X from (narrow_out _).trans ((X0_eq m ρ c).trans (h0 c))]
    exact layer_block _ 0 X W0 V0 (fun d => (narrow_in _).trans ((X1_eq m ρ d).trans (h1 d)))
      (fun d => (narrow_out _).trans ((X2_eq m ρ d).trans (h2 d))) c
  have e2 : out2 (Wt m ρ) (X0 m ρ c) c = rowsOf c (refLayer (refLayer X W0 V0) W1 V1) := by
    unfold out2
    rw [show truncf .bf16 (out1 (Wt m ρ) (X0 m ρ c) c) bitsLt_bf16_f32 = rowsOf c (refLayer X W0 V0) from e1]
    exact layer_block _ 1 _ W1 V1 (fun d => (narrow_in _).trans ((X3_eq m ρ d).trans (h3 d)))
      (fun d => (narrow_out _).trans ((X4_eq m ρ d).trans (h4 d))) c
  unfold outAt out3
  rw [show truncf .bf16 (out2 (Wt m ρ) (X0 m ρ c) c) bitsLt_bf16_f32 = rowsOf c (refLayer (refLayer X W0 V0) W1 V1) from e2]
  exact layer_block _ 2 _ W2 V2 (fun d => (narrow_in _).trans ((X5_eq m ρ d).trans (h5 d)))
    (fun d => (narrow_out _).trans ((X6_eq m ρ d).trans (h6 d))) c

end Value

/-- Device `c`'s result is block `c` of the reference's. -/
theorem algebraic : Cert.algebraic_KernelIdeal_ReferenceIdeal := by
  intro m g m' g' _ h
  refine ⟨_, ?_, (θ_run _ _ _).mono (fun r hr => hr 0) (Cert.ReferenceIdeal.Value.run (F := Ideal) m' g')⟩
  refine (θ_run _ _ _).mono (fun r hr c => ⟨(hr.1 c).1.trans ?_, (hr.1 c).2⟩) (Cert.Proof.KernelIdeal.run (F := Ideal) m g)
  exact outAt_eq m g _ _ _ _ _ _ _ (fun c => (h c).1) (fun c => (h c).2.1) (fun c => (h c).2.2.1) (fun c => (h c).2.2.2.1)
    (fun c => (h c).2.2.2.2.1) (fun c => (h c).2.2.2.2.2.1) (fun c => (h c).2.2.2.2.2.2) c

theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
